-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![256, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S12x256x512 : Shape := ⟨3, ![12, 256, 512]⟩
abbrev S9 : Shape := ⟨1, ![9]⟩
abbrev S_ : Shape := ⟨0, ![]⟩
abbrev S1x256x512 : Shape := ⟨3, ![1, 256, 512]⟩
abbrev S1 : Shape := ⟨1, ![1]⟩

abbrev nBuf : Space → Nat
  | .hbm => 8
  | .vmem => 9
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S256x256, .bf16⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .bf16⟩
  | .local _ .vmem, ⟨8, _⟩ => ⟨S12x256x512, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_20 : BitVec 32 := 1#32
  let v22 : BitVec 32 := Scalar.muli v5 c1_i32_20
  let v23 : BitVec 32 := Scalar.addi c0_i32_21 v22
  v23.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_30 : BitVec 32 := 1#32
  let v32 : BitVec 32 := Scalar.muli v3 c1_i32_30
  let v33 : BitVec 32 := Scalar.addi c0_i32_31 v32
  v33.toNat
def k0_dev6 (d0 : Dev nD) : Nat :=
  let c0_i32_41 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_40 : BitVec 32 := 1#32
  let v42 : BitVec 32 := Scalar.muli v4 c1_i32_40
  let v43 : BitVec 32 := Scalar.addi c0_i32_41 v42
  v43.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_94 : BitVec 32 := 1#32
  let v98 : BitVec 32 := Scalar.muli v5 c1_i32_94
  let v99 : BitVec 32 := Scalar.addi c0_i32_95 v98
  v99.toNat
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_103 : BitVec 32 := 1#32
  let v108 : BitVec 32 := Scalar.muli v3 c1_i32_103
  let v109 : BitVec 32 := Scalar.addi c0_i32_104 v108
  v109.toNat
def k0_dev9 (d0 : Dev nD) : Nat :=
  let c0_i32_113 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_112 : BitVec 32 := 1#32
  let v118 : BitVec 32 := Scalar.muli v4 c1_i32_112
  let v119 : BitVec 32 := Scalar.addi c0_i32_113 v118
  v119.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_165 : BitVec 32 := 1#32
  let v174 : BitVec 32 := Scalar.muli v5 c1_i32_165
  let v175 : BitVec 32 := Scalar.addi c0_i32_166 v174
  v175.toNat
def k0_dev11 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_174 : BitVec 32 := 1#32
  let v184 : BitVec 32 := Scalar.muli v3 c1_i32_174
  let v185 : BitVec 32 := Scalar.addi c0_i32_175 v184
  v185.toNat
def k0_dev12 (d0 : Dev nD) : Nat :=
  let c0_i32_184 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_183 : BitVec 32 := 1#32
  let v194 : BitVec 32 := Scalar.muli v4 c1_i32_183
  let v195 : BitVec 32 := Scalar.addi c0_i32_184 v194
  v195.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x1024 : Shape := ⟨2, ![256, 1024]⟩
abbrev S1024x512 : Shape := ⟨2, ![1024, 512]⟩
abbrev S512x1024 : Shape := ⟨2, ![512, 1024]⟩
abbrev S256x512 : Shape := ⟨2, ![256, 512]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S512x1024, .bf16⟩
  | .hbm, ⟨3, _⟩ => ⟨S1024x512, .bf16⟩
  | .hbm, ⟨4, _⟩ => ⟨S512x1024, .bf16⟩
  | .hbm, ⟨5, _⟩ => ⟨S1024x512, .bf16⟩
  | .hbm, ⟨6, _⟩ => ⟨S512x1024, .bf16⟩
  | .hbm, ⟨7, _⟩ => ⟨S256x512, .f32⟩
  | .hbm, ⟨8, _⟩ => ⟨S256x512, .bf16⟩
  | .hbm, ⟨9, _⟩ => ⟨S_, .bf16⟩
  | .hbm, ⟨10, _⟩ => ⟨S256x512, .bf16⟩
  | .hbm, ⟨11, _⟩ => ⟨S256x512, .bf16⟩
  | .hbm, ⟨12, _⟩ => ⟨S256x1024, .f32⟩
  | .hbm, ⟨13, _⟩ => ⟨S256x1024, .bf16⟩
  | .hbm, ⟨14, _⟩ => ⟨S256x512, .f32⟩
  | .hbm, ⟨15, _⟩ => ⟨S256x512, .bf16⟩
  | .hbm, ⟨16, _⟩ => ⟨S_, .bf16⟩
  | .hbm, ⟨17, _⟩ => ⟨S256x512, .bf16⟩
  | .hbm, ⟨18, _⟩ => ⟨S256x512, .bf16⟩
  | .hbm, ⟨19, _⟩ => ⟨S256x1024, .f32⟩
  | .hbm, ⟨20, _⟩ => ⟨S256x1024, .bf16⟩
  | .hbm, ⟨21, _⟩ => ⟨S256x512, .f32⟩
  | .hbm, ⟨22, _⟩ => ⟨S256x512, .bf16⟩
  | .hbm, ⟨23, _⟩ => ⟨S_, .bf16⟩
  | .hbm, ⟨24, _⟩ => ⟨S256x512, .bf16⟩
  | .hbm, ⟨25, _⟩ => ⟨S256x512, .bf16⟩
  | .hbm, ⟨26, _⟩ => ⟨S256x1024, .f32⟩
  | .hbm, ⟨27, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Slots.lean ====
/- The communication buffer of the kernel: twelve slots of 256 rows and 512 columns, slots `4 l` holding a device's own
   partial product of layer `l` and slots `4 l + 1`, `4 l + 2`, `4 l + 3` the three it receives. This module says which
   elements a slot is, what a load, a store and a copy of one slot do to contents spread over the slots, and cuts
   the buffer into its slots and joins it back. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Ring
public import Idealize.ShloMosaic.Lib.Transfers
public import Idealize.ShloMosaic.Lib.Tactic

@[expose] public section

set_option maxRecDepth 16384

noncomputable section

namespace Cert.MlpRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The algebra of resources: the pipeline's rounds beside the exchange's -/

/-- The exchange's rounds, a duty named by the direction it is paid from. -/
abbrev UX : Type := URounds (GSem nD τ sig) (Fin 3)
/-- Both copies of the rounds library. -/
abbrev UU : Type := UR sig nD τ × UX

local notation "𝕄" => MT nD τ sig Unit (Elt F) ℕ UU ℕ

/-- The pipeline's copy of the rounds library in the machine's algebra. -/
abbrev EP : Emb (UR sig nD τ) (MT nD τ sig Unit (Elt F) ℕ UU ℕ) := embL
/-- The exchange's copy of the rounds library in the machine's algebra. -/
abbrev EX : Emb UX (MT nD τ sig Unit (Elt F) ℕ UU ℕ) := embR

/-! ## One slot -/

/-- The communication buffer, whole. -/
abbrev scr : Memref sig .tc .vmem S12x256x512 .bf16 := Memref.whole cc0_scratch0

/-- Slot `k` of the buffer, as loads and stores address it. -/
abbrev slotR (k : ℕ) (h : ∀ a, (![k, 0, 0] : Fin 3 → ℕ) a + S1x256x512.size a ≤ S12x256x512.size a) : Rect S12x256x512 :=
  Rect.unit (s := S12x256x512) ![k, 0, 0] S1x256x512.size h

/-- Slot `k` of the buffer, as copies address it. -/
abbrev slotM (k : ℕ) (h : ∀ a, (![k, 0, 0] : Fin 3 → ℕ) a + S1x256x512.size a ≤ S12x256x512.size a) :
    Memref sig .tc .vmem S256x512 .bf16 :=
  (scr.slice (slotR k h) (fun _ => rfl)).squeeze S256x512 squeezes_S1x256x512_S256x512

/-- The elements of slot `k`. -/
def slotSet (k : ℕ) : Finset S12x256x512.Idx := Finset.univ.filter fun i => (i 0).val = k

theorem mem_slotSet {k : ℕ} {i : S12x256x512.Idx} : i ∈ slotSet k ↔ (i 0).val = k := by
  unfold slotSet; rw [Finset.mem_filter]; exact ⟨fun h => h.2, fun h => ⟨Finset.mem_univ _, h⟩⟩

/-- The rectangle of slot `k` is slot `k`. -/
theorem slotR_set (k : ℕ) (h) : (slotR k h).set = slotSet k := by
  ext i
  rw [Rect.mem_set_unit, mem_slotSet]
  constructor
  · intro hi
    have h0 := hi 0
    have e1 : (![k, 0, 0] : Fin 3 → ℕ) 0 = k := rfl
    have e2 : S1x256x512.size 0 = 1 := rfl
    rw [e1, e2] at h0
    omega
  · intro hi a
    match a with
    | ⟨0, _⟩ => exact ⟨le_of_eq hi.symm, by show (i 0).val < k + 1; omega⟩
    | ⟨1, _⟩ => exact ⟨Nat.zero_le _, by have := (i 1).isLt; show (i 1).val < 0 + 256; rw [Nat.zero_add]; exact this⟩
    | ⟨2, _⟩ => exact ⟨Nat.zero_le _, by have := (i 2).isLt; show (i 2).val < 0 + 512; rw [Nat.zero_add]; exact this⟩

theorem access_set (k : ℕ) (h) : (scr.access (slotR k h) : View sig .tc _ _ _).set = slotSet k :=
  (View.set_slice_whole cc0_scratch0 (slotR k h)).trans (slotR_set k h)

theorem slotM_set (k : ℕ) (h) : (slotM k h).view.set = slotSet k :=
  (View.set_reshape _ _).trans (access_set k h)

/-- Contents of the buffer that hold the block `u` in every slot. -/
def spread (u : Vec F S1x256x512 .bf16) : (cc0_scratch0 : Ref sig .tc).ty.Contents (Elt F) :=
  fun i => u (ix3 (n0 := 1) (n1 := 256) (n2 := 512) 0 (i 1) (i 2))

omit [FloatOps F] in
/-- Under a slot's rectangle, contents spread from `u` are `u`. -/
theorem spread_emb (k : ℕ) (h) (u : Vec F S1x256x512 .bf16) (x : S1x256x512.Idx) : spread u ((slotR k h).emb x) = u x := by
  unfold spread
  congr 1
  funext a
  match a with
  | ⟨0, _⟩ => exact Fin.ext (by have := (x 0).isLt; have e : S1x256x512.size 0 = 1 := rfl; show 0 = (x 0).val; omega)
  | ⟨1, _⟩ => exact Fin.ext (by show 0 + 1 * (x 1).val = (x 1).val; omega)
  | ⟨2, _⟩ => exact Fin.ext (by show 0 + 1 * (x 2).val = (x 2).val; omega)

omit [FloatOps F] in
/-- A load of a slot reads the block spread over the slots. -/
theorem read_slot (k : ℕ) (h) (u : Vec F S1x256x512 .bf16) :
    scr.view.readAt (Elt F) (slotR k h).toLoadRect (spread u) = u :=
  funext fun x => spread_emb k h u x

omit [FloatOps F] in
/-- A store of a slot leaves there the block stored. -/
theorem write_slot (k : ℕ) (h) (f : (cc0_scratch0 : Ref sig .tc).ty.Contents (Elt F)) (u : Vec F S1x256x512 .bf16)
    (i : S12x256x512.Idx) (hi : i ∈ slotSet k) :
    (scr.access (slotR k h) : View sig .tc _ _ _).write (Elt F) f u Finset.univ i = spread u i := by
  rw [← access_set k h] at hi
  obtain ⟨x, -, rfl⟩ := Finset.mem_map.mp hi
  refine (View.write_emb_of_mem (v := (scr.access (slotR k h) : View sig .tc _ _ _)) (Val := Elt F) f u (Finset.mem_univ x)).trans ?_
  exact (spread_emb k h u x).symm

omit [FloatOps F] in
/-- A copy of a slot holding a spread block leaves that block in the slot it goes to. -/
theorem copy_slot (k k' : ℕ) (h) (h') (f : (cc0_scratch0 : Ref sig .tc).ty.Contents (Elt F)) (u : Vec F S1x256x512 .bf16)
    (i : S12x256x512.Idx) (hi : i ∈ slotSet k') :
    (slotM k' h').view.write (Elt F) f ((slotM k h).view.read (Elt F) (spread u)) Finset.univ i = spread u i := by
  rw [← slotM_set k' h'] at hi
  obtain ⟨x, -, rfl⟩ := Finset.mem_map.mp hi
  refine (View.write_emb_of_mem (v := (slotM k' h').view) (Val := Elt F) f _ (Finset.mem_univ x)).trans ?_
  exact (spread_emb k h u _).trans (spread_emb k' h' u _).symm

/-! ## Slots held -/

/-- Device `c` holds its slot `k` at the share `q` and the contents `f`. -/
def slotAt (c : Dev nD) (k : ℕ) (q : PosShare TreeShare) (f : (cc0_scratch0 : Ref sig .tc).ty.Contents (Elt F)) : sProp 𝕄 :=
  (c : Thread nD τ).loc cc0_scratch0 ↦[slotSet k]{q} f

/-- Device `c` holds its slot `k` outright, at some contents. -/
def slotAny (c : Dev nD) (k : ℕ) : sProp 𝕄 := iprop(∃ f, slotAt c k fullShare f)

omit [FloatOps F] in
instance slotAt_storable (c : Dev nD) (k : ℕ) (q) (f : (cc0_scratch0 : Ref sig .tc).ty.Contents (Elt F)) :
    BI.Storable (upEmb : UEmb _ 𝕄) (slotAt (F := F) c k q f) := by unfold slotAt; infer_instance
omit [FloatOps F] in
instance slotAny_storable (c : Dev nD) (k : ℕ) : BI.Storable (upEmb : UEmb _ 𝕄) (slotAny (F := F) c k) := by
  unfold slotAny; infer_instance

omit [FloatOps F] in
/-- The contents held off the slot do not matter. -/
theorem slotAt_congr (c : Dev nD) (k : ℕ) (q) (f g : (cc0_scratch0 : Ref sig .tc).ty.Contents (Elt F))
    (h : ∀ i ∈ slotSet k, f i = g i) : (slotAt c k q f : sProp 𝕄) = slotAt c k q g := pointsTo_congr h

omit [FloatOps F] in
theorem slotAt_any (c : Dev nD) (k : ℕ) (f : (cc0_scratch0 : Ref sig .tc).ty.Contents (Elt F)) :
    (slotAt c k fullShare f : sProp 𝕄) ⊢ slotAny c k := by
  unfold slotAny; iintro H; iexists f; iexact H

/-- The twelve slots, as a family. -/
theorem slots_disjoint (b b' : Fin 12) (h : b ≠ b') : Disjoint (slotSet b.val) (slotSet b'.val) :=
  Finset.disjoint_left.mpr fun i hi hi' => h (Fin.ext ((mem_slotSet.mp hi).symm.trans (mem_slotSet.mp hi')))
theorem slots_cover : (Finset.univ : Finset (Fin 12)).biUnion (fun b => slotSet b.val) = Finset.univ := by
  ext i
  simp only [Finset.mem_biUnion, Finset.mem_univ, true_and, iff_true]
  exact ⟨i 0, mem_slotSet.mpr rfl⟩

omit [FloatOps F] in
/-- The buffer held whole is its twelve slots held, each at some contents. -/
theorem scr_cut (c : Dev nD) (f : Buf (Elt F) ((c : Thread nD τ).loc cc0_scratch0)) :
    (((c : Thread nD τ).loc cc0_scratch0) ↦{fullShare} f : sProp 𝕄) ⊢ bigSep Finset.univ fun b : Fin 12 => slotAny c b.val := by
  refine (Entails.of_eq (Ring.pointsTo_blocks (fun b : Fin 12 => slotSet b.val) slots_disjoint slots_cover f)).trans ?_
  exact bigSep_mono fun b _ => slotAt_any c b.val f

omit [FloatOps F] in
/-- And the twelve slots held are the buffer held, at some contents. -/
theorem scr_join (c : Dev nD) (f₀ : Buf (Elt F) ((c : Thread nD τ).loc cc0_scratch0)) :
    (bigSep Finset.univ fun b : Fin 12 => (slotAny c b.val : sProp 𝕄))
      ⊢ iprop(∃ f : Buf (Elt F) ((c : Thread nD τ).loc cc0_scratch0), ((c : Thread nD τ).loc cc0_scratch0) ↦{fullShare} f) := by
  unfold slotAny slotAt
  exact Ring.pointsTo_blocks_join_exists (ℓ := (c : Thread nD τ).loc cc0_scratch0) (fun b : Fin 12 => slotSet b.val) slots_disjoint slots_cover f₀

/-! ## The three readers of a slot -/

/-- The share of its own slot a device lends to the copy it sends in direction `d`. -/
def lend : Fin 3 → PosShare TreeShare
  | 0 => fullShare.left
  | 1 => fullShare.right.left
  | 2 => fullShare.right.right

omit [FloatOps F] in
/-- A slot held outright is held by its three readers. -/
theorem lend_split (c : Dev nD) (k : ℕ) (f : (cc0_scratch0 : Ref sig .tc).ty.Contents (Elt F)) :
    (slotAt c k fullShare f : sProp 𝕄) ⊣⊢ iprop(slotAt c k (lend 0) f ∗ slotAt c k (lend 1) f ∗ slotAt c k (lend 2) f) := by
  unfold slotAt lend
  have h1 := pointsTo_share (Ix := Unit) (Name := ℕ) (U := UU) (Lvl := ℕ) (ℓ := (c : Thread nD τ).loc cc0_scratch0) (I := slotSet k) (f := f)
    (PosShare.mem_left_op_right fullShare)
  have h2 := pointsTo_share (Ix := Unit) (Name := ℕ) (U := UU) (Lvl := ℕ) (ℓ := (c : Thread nD τ).loc cc0_scratch0) (I := slotSet k) (f := f)
    (PosShare.mem_left_op_right fullShare.right)
  exact ⟨h1.1.trans (sep_mono_right h2.1), (sep_mono_right h2.2).trans h1.2⟩

end Cert.MlpRun

end
-- ==== Proof.Sched.lean ====
/- The protocol of the exchange. Each device has a barrier cell, nine cells its sends complete on and nine cells its
   receives complete on; copy `j` belongs to layer `j / 3` and goes in direction `j % 3`. This module defines the
   partial products the devices compute, the cells, what each contribution to a cell hands over, what each device
   owes at launch and the order of the waits. -/
module

public import proofs.«01_k».proof.Proof.Slots

@[expose] public section

set_option maxRecDepth 16384

noncomputable section

namespace Cert.MlpRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peers -/

/-- The device `c` exchanges with in direction `d`: the bits of its number flipped by 2, by 1 and by 3. -/
def peer (d : Fin 3) (c : Dev nD) : Dev nD :=
  match d with
  | 0 => match c with | 0 => 2 | 1 => 3 | 2 => 0 | 3 => 1
  | 1 => match c with | 0 => 1 | 1 => 0 | 2 => 3 | 3 => 2
  | 2 => match c with | 0 => 3 | 1 => 2 | 2 => 1 | 3 => 0

theorem peer_peer (d : Fin 3) (c : Dev nD) : peer d (peer d c) = c := by revert d c; decide
/-- The exchange in one direction pairs the devices off. -/
def pairing (d : Fin 3) : Dev nD ≃ Dev nD := ⟨peer d, peer d, peer_peer d, peer_peer d⟩
theorem peer_eq_iff {d : Fin 3} {a b : Dev nD} : peer d a = b ↔ a = peer d b :=
  ⟨fun h => by rw [← h, peer_peer], fun h => by rw [h, peer_peer]⟩

/-- Copy `j` goes in direction `j % 3`. -/
def dir (j : ℕ) : Fin 3 := ⟨j % 3, Nat.mod_lt _ (by decide)⟩

theorem dev1_eq (c : Dev nD) : (⟨k0_dev1 c, k0_dev1_lt c⟩ : Dev nD) = peer 1 c := by revert c; decide
theorem dev2_eq (c : Dev nD) : (⟨k0_dev2 c, k0_dev2_lt c⟩ : Dev nD) = peer 2 c := by revert c; decide
theorem dev3_eq (c : Dev nD) : (⟨k0_dev3 c, k0_dev3_lt c⟩ : Dev nD) = peer 0 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 2 c := by revert c; decide
theorem dev10_eq (c : Dev nD) : (⟨k0_dev10 c, k0_dev10_lt c⟩ : Dev nD) = peer 0 c := by revert c; decide
theorem dev11_eq (c : Dev nD) : (⟨k0_dev11 c, k0_dev11_lt c⟩ : Dev nD) = peer 1 c := by revert c; decide
theorem dev12_eq (c : Dev nD) : (⟨k0_dev12 c, k0_dev12_lt c⟩ : Dev nD) = peer 2 c := by revert c; decide

/-! ## What the devices compute -/

section Values

/-- A partial product as it lies in a slot. -/
def up (p : FVec F S256x512 .bf16) : Vec F S1x256x512 .bf16 := shapeCast S1x256x512 p shapeCasts_S256x512_S1x256x512

/-- The blocks a device's program is handed: its columns of `x` and its rows or columns of the six weights. -/
structure Args (F : FTy → Type) where
  x : Vec F S256x256 .bf16
  win0 : Vec F S256x512 .bf16
  wout0 : Vec F S512x256 .bf16
  win1 : Vec F S256x512 .bf16
  wout1 : Vec F S512x256 .bf16
  win2 : Vec F S256x512 .bf16
  wout2 : Vec F S512x256 .bf16

variable (A : Dev nD → Args F)

/-- Device `c`'s partial product of the first layer. -/
def part0 (c : Dev nD) : FVec F S256x512 .bf16 := k0_pay1 (A c).x (A c).win0
/-- Its partial product of the second layer, from what it received of the first. -/
def part1 (c : Dev nD) : FVec F S256x512 .bf16 :=
  k0_pay4 (k0_pay3 (part0 A c) (up (part0 A (peer 0 c)))) (up (part0 A (peer 1 c))) (up (part0 A (peer 2 c))) (A c).wout0 (A c).win1
/-- Its partial product of the third layer, from what it received of the second. -/
def part2 (c : Dev nD) : FVec F S256x512 .bf16 :=
  k0_pay8 (k0_pay6 (part1 A c) (up (part1 A (peer 0 c))) (up (part1 A (peer 1 c))) (up (part1 A (peer 2 c)))) (k0_pay7 (A c).wout1)
    (constant S256x256 .f32 0x00000000#32) (A c).win2
/-- Its block of the result, from what it received of the third. -/
def result (c : Dev nD) : FVec F S256x256 .bf16 :=
  k0_pay10 (part2 A c) (up (part2 A (peer 0 c))) (up (part2 A (peer 1 c))) (up (part2 A (peer 2 c))) (A c).wout2

/-- The partial products by layer. -/
def part : ℕ → Dev nD → FVec F S256x512 .bf16
  | 0 => part0 A
  | 1 => part1 A
  | _ + 2 => part2 A

end Values

/-! ## The cells -/

/-- The runtime's barrier semaphore. -/
abbrev barS : Sem sig := (SemArray.scalar (sig.barrier 0 rfl) : Sems sig S_).sem
/-- The semaphore send `j` completes on, and the one receive `j` completes on. -/
abbrev sendS (j : Fin 9) : DmaSem sig := (⟨8 + j.val, by have := j.isLt; omega⟩ : Fin 26)
abbrev recvS (j : Fin 9) : DmaSem sig := (⟨17 + j.val, by have := j.isLt; omega⟩ : Fin 26)

abbrev barCell (c : Dev nD) : GSem nD τ sig := ((c : Thread nD τ), .reg barS)
abbrev sendCell (c : Dev nD) (j : Fin 9) : GSem nD τ sig := ((c : Thread nD τ), .dma (sendS j))
abbrev recvCell (c : Dev nD) (j : Fin 9) : GSem nD τ sig := ((c : Thread nD τ), .dma (recvS j))

/-- The program's own spelling of the semaphores. -/
theorem sendS_eq (j : Fin 9) (h) : ((cc0_scratch1.slice (Rect.unit (s := S9) ![j.val] S1.size h)).squeeze S_ squeezes_S1_S_).sem = sendS j := by
  revert j; decide
theorem recvS_eq (j : Fin 9) (h) : ((cc0_scratch2.slice (Rect.unit (s := S9) ![j.val] S1.size h)).squeeze S_ squeezes_S1_S_).sem = recvS j := by
  revert j; decide

/-- What one copy credits: the bytes of a slot as the semaphores count them. -/
abbrev N : ℕ := (slotM 0 inb_S12x256x512_S1x256x512_0_0_0).view.dmaCredit
theorem N_pos : 0 < N := View.dmaCredit_pos _ (by decide)

/-! ## The schedule -/

section Sched

variable (A : Dev nD → Args F)

/-- What the signal of direction `d` hands device `c`: the three slots of its peer that its own copies in that
    direction land in, one per layer. -/
def barPay (c : Dev nD) (d : Fin 3) : sProp 𝕄 :=
  iprop(slotAny (peer d c) (d.val + 1) ∗ slotAny (peer d c) (4 + d.val + 1) ∗ slotAny (peer d c) (8 + d.val + 1))
/-- What the completion of send `j` hands back: the share lent of the slot it read. -/
def sendPay (c : Dev nD) (j : ℕ) : sProp 𝕄 := slotAt c (4 * (j / 3)) (lend (dir j)) (spread (up (part A (j / 3) c)))
/-- What the completion of receive `j` hands over: the slot, holding the peer's partial product. -/
def recvPay (c : Dev nD) (j : ℕ) : sProp 𝕄 :=
  slotAt c (4 * (j / 3) + j % 3 + 1) fullShare (spread (up (part A (j / 3) (peer (dir j) c))))

/-- One round: a barrier cell has a duty of one unit per direction; a send or a receive cell one duty, the credit of a
    slot; no other cell has any. -/
def rd : Rounds.Schedule (GSem nD τ sig) (Fin 3) 𝕄 where
  duties g r :=
    if r = 0 ∧ g.1.2 = .tc then
      match g.2 with
      | .reg _ => Finset.univ
      | .dma q => if 8 ≤ q.val then {0} else ∅
    else ∅
  unitless _ := False
  amount g _ _ := match g.2 with
    | .reg _ => 1
    | .dma _ => N
  payload g _ d := match g.2 with
    | .reg _ => barPay g.1.1 d
    | .dma q => if q.val < 17 then sendPay A g.1.1 (q.val - 8) else recvPay A g.1.1 (q.val - 17)
  amount_pos g _ _ _ := by
    rcases g with ⟨t, s | q⟩
    · exact Nat.one_pos
    · exact N_pos

instance rd_payload_storable (g : GSem nD τ sig) (r : ℕ) (d : Fin 3) :
    BI.Storable (upEmb : UEmb _ 𝕄) ((rd (F := F) A).payload g r d) := by
  rcases g with ⟨t, s | q⟩
  · show BI.Storable upEmb (barPay t.1 d)
    unfold barPay; infer_instance
  · show BI.Storable upEmb (if q.val < 17 then sendPay A t.1 (q.val - 8) else recvPay A t.1 (q.val - 17))
    unfold sendPay recvPay
    split <;> infer_instance

variable (c : Dev nD)

theorem duties_bar : (rd A).duties (barCell c) 0 = Finset.univ := rfl
theorem duties_send (j : Fin 9) : (rd A).duties (sendCell c j) 0 = {0} := by
  show (if 8 ≤ 8 + j.val then ({0} : Finset (Fin 3)) else ∅) = {0}
  exact if_pos (Nat.le_add_right _ _)
theorem duties_recv (j : Fin 9) : (rd A).duties (recvCell c j) 0 = {0} := by
  show (if 8 ≤ 17 + j.val then ({0} : Finset (Fin 3)) else ∅) = {0}
  exact if_pos (by omega)
theorem duties_later (g : GSem nD τ sig) : ∀ r, 1 ≤ r → (rd A).duties g r = ∅ :=
  fun r hr => by dsimp only [rd]; exact if_neg fun h => by omega

theorem amount_bar (d : Fin 3) : (rd A).amount (barCell c) 0 d = 1 := rfl
theorem amount_send (j : Fin 9) (d : Fin 3) : (rd A).amount (sendCell c j) 0 d = N := rfl
theorem amount_recv (j : Fin 9) (d : Fin 3) : (rd A).amount (recvCell c j) 0 d = N := rfl

theorem payload_bar (d : Fin 3) : (rd A).payload (barCell c) 0 d = barPay c d := rfl
theorem payload_send (j : Fin 9) (d : Fin 3) : (rd A).payload (sendCell c j) 0 d = sendPay A c j.val := by
  show (if 8 + j.val < 17 then sendPay A c (8 + j.val - 8) else recvPay A c (8 + j.val - 17)) = _
  rw [if_pos (by have := j.isLt; omega), Nat.add_sub_cancel_left]
theorem payload_recv (j : Fin 9) (d : Fin 3) : (rd A).payload (recvCell c j) 0 d = recvPay A c j.val := by
  show (if 17 + j.val < 17 then sendPay A c (17 + j.val - 8) else recvPay A c (17 + j.val - 17)) = _
  rw [if_neg (by omega), Nat.add_sub_cancel_left]

theorem expect_bar : (rd A).expect (barCell c) 0 = 3 := by
  unfold Schedule.expect Schedule.amountOf
  rw [duties_bar, Finset.sum_congr rfl fun d _ => amount_bar A c d, Finset.sum_const, Finset.card_univ, Fintype.card_fin, smul_eq_mul]
theorem expect_send (j : Fin 9) : (rd A).expect (sendCell c j) 0 = N := by
  unfold Schedule.expect Schedule.amountOf; rw [duties_send, Finset.sum_singleton, amount_send]
theorem expect_recv (j : Fin 9) : (rd A).expect (recvCell c j) 0 = N := by
  unfold Schedule.expect Schedule.amountOf; rw [duties_recv, Finset.sum_singleton, amount_recv]

theorem bigSep_dirs (Φ : Fin 3 → sProp 𝕄) : bigSep Finset.univ Φ = iprop(Φ 0 ∗ Φ 1 ∗ Φ 2) :=
  bigSep_univ_eq_bigSepL [0, 1, 2] (by decide) (by decide) Φ

/-- Everything a barrier cell's round hands over. -/
theorem rest_bar : bigSep ((rd A).duties (barCell c) 0 \ ∅) (fun d => (rd A).payload (barCell c) 0 d)
    = iprop(barPay c 0 ∗ barPay c 1 ∗ barPay c 2) := by
  rw [Finset.sdiff_empty, duties_bar, bigSep_dirs]; rfl
theorem rest_send (j : Fin 9) : bigSep ((rd A).duties (sendCell c j) 0 \ ∅) (fun d => (rd A).payload (sendCell c j) 0 d) = sendPay A c j.val := by
  rw [Finset.sdiff_empty, duties_send, bigSep_singleton, payload_send]
theorem rest_recv (j : Fin 9) : bigSep ((rd A).duties (recvCell c j) 0 \ ∅) (fun d => (rd A).payload (recvCell c j) 0 d) = recvPay A c j.val := by
  rw [Finset.sdiff_empty, duties_recv, bigSep_singleton, payload_recv]

end Sched

/-! ## What is owed, and the order of the waits -/

/-- What device `c` still owes the receive cells when `n` of its nine copies are still to be sent. -/
def owF (c : Dev nD) : ℕ → CellTallies nD τ sig Unit
  | 0 => 0
  | n + 1 => owF c n + tallyAt (recvCell (peer (dir (8 - n)) c) ⟨8 - n, by omega⟩) () N

/-- What device `c` owes at launch: its nine copies and a unit to each peer's barrier cell. -/
def O₀ (c : Dev nD) : CellTallies nD τ sig Unit :=
  owF c 9 + tallyAt (barCell (peer 0 c)) () 1 + tallyAt (barCell (peer 2 c)) () 1 + tallyAt (barCell (peer 1 c)) () 1

/-- Every TensorCore cell may be owed. -/
def L (g : GSem nD τ sig) : Finset Unit := if g.1.2 = .tc then {()} else ∅
/-- The order of the waits: the staging and the send cells, then the barrier, then the receives layer by layer. -/
def lv (g : GSem nD τ sig) (_ : Unit) : ℕ := match g.2 with
  | .reg _ => 1
  | .dma q => if q.val < 17 then 0 else 2 + (q.val - 17) / 3

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 9) (u : Unit) : lv (recvCell c j) u = 2 + j.val / 3 := by
  show (if 17 + j.val < 17 then 0 else 2 + (17 + j.val - 17) / 3) = _
  rw [if_neg (by omega), Nat.add_sub_cancel_left]

theorem tallyAt_pos {g g' : GSem nD τ sig} {u u' : Unit} {n : ℕ} (h : 0 < (tallyAt g u n : CellTallies nD τ sig Unit) g' u') : g' = g := by
  rw [tallyAt_apply] at h
  by_contra hn
  rw [if_neg (fun h' => hn h'.1)] at h
  exact Nat.lt_irrefl 0 h

/-- With `n` copies to send a device owes only the receive cells of those copies. -/
theorem owF_pos {c : Dev nD} : ∀ {n : ℕ} {g : GSem nD τ sig} {u : Unit}, 0 < owF c n g u →
    ∃ j : Fin 9, 9 ≤ n + j.val ∧ g = recvCell (peer (dir j.val) c) j
  | 0, g, u, h => absurd h (by unfold owF; exact Nat.lt_irrefl 0)
  | n + 1, g, u, h => by
    unfold owF at h
    rw [Pi.add_apply, Finsupp.add_apply] at h
    rcases Nat.eq_zero_or_pos (owF c n g u) with h0 | h0
    · rw [h0, Nat.zero_add] at h
      exact ⟨⟨8 - n, by omega⟩, by show 9 ≤ n + 1 + (8 - n); omega, tallyAt_pos h⟩
    · obtain ⟨j, hj, e⟩ := owF_pos h0
      exact ⟨j, by omega, e⟩

theorem O₀_pos {c : Dev nD} {g : GSem nD τ sig} {u : Unit} (h : 0 < O₀ c g u) :
    (∃ c' j, g = recvCell c' j) ∨ ∃ c', g = barCell c' := by
  unfold O₀ at h
  simp only [Pi.add_apply, Finsupp.add_apply] at h
  rcases Nat.eq_zero_or_pos (owF c 9 g u) with h0 | h0
  · rcases Nat.eq_zero_or_pos ((tallyAt (barCell (peer 0 c)) () 1 : CellTallies nD τ sig Unit) g u) with h1 | h1
    · rcases Nat.eq_zero_or_pos ((tallyAt (barCell (peer 2 c)) () 1 : CellTallies nD τ sig Unit) g u) with h2 | h2
      · rw [h0, h1, h2, Nat.zero_add] at h
        exact .inr ⟨_, tallyAt_pos h⟩
      · exact .inr ⟨_, tallyAt_pos h2⟩
    · exact .inr ⟨_, tallyAt_pos h1⟩
  · obtain ⟨j, -, e⟩ := owF_pos h0
    exact .inl ⟨_, j, e⟩

/-- A staging semaphore may be waited for whatever is owed at launch or at the end. -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', j, rfl⟩ | ⟨c', rfl⟩ <;> exact Finset.mem_singleton_self _)
      (fun p hp => by
        rw [Finset.mem_singleton.mp hp]
        show (if q.val < 17 then 0 else 2 + (q.val - 17) / 3) ≤ 0
        rw [if_pos (by omega)])
      (fun g u hg => by
        rcases O₀_pos hg with ⟨c', j, rfl⟩ | ⟨c', rfl⟩
        · rw [lv_recv]; omega
        · exact Nat.one_pos)
  · rw [MayWait_zero]; iintro -; iempintro

/-- At its barrier wait a device owes only copies. -/
theorem mayWait_bar (c : Dev nD) : (levAts L lv : sProp 𝕄) ⊢ MayWait (c : Thread nD τ) (.reg barS) () (owF c 9) :=
  MayOwe.of_cut (L := L) (lev := lv) 1 (fun p hp => by rw [Finset.mem_singleton.mp hp, L_tc]; exact Finset.mem_singleton_self _)
    (fun g u hg => by obtain ⟨j, -, rfl⟩ := owF_pos hg; exact Finset.mem_singleton_self _)
    (fun p hp => by rw [Finset.mem_singleton.mp hp]; exact le_refl 1)
    (fun g u hg => by obtain ⟨j, -, rfl⟩ := owF_pos hg; rw [lv_recv]; omega)

/-- At a receive of one layer a device owes only copies of later layers. -/
theorem mayWait_recv (c : Dev nD) (j : Fin 9) : (levAts L lv : sProp 𝕄) ⊢ MayWait (c : Thread nD τ) (.dma (recvS j)) () (owF c (6 - 3 * (j.val / 3))) :=
  MayOwe.of_cut (L := L) (lev := lv) (2 + j.val / 3) (fun p hp => by rw [Finset.mem_singleton.mp hp, L_tc]; exact Finset.mem_singleton_self _)
    (fun g u hg => by obtain ⟨i, -, rfl⟩ := owF_pos hg; exact Finset.mem_singleton_self _)
    (fun p hp => by rw [Finset.mem_singleton.mp hp]; exact le_of_eq (lv_recv c j _))
    (fun g u hg => by obtain ⟨i, hi, rfl⟩ := owF_pos hg; rw [lv_recv]; have := j.isLt; omega)

end Cert.MlpRun

end
-- ==== Proof.Steps.lean ====
/- The steps of the kernel's program that touch the exchange, each stated once for a direction or a copy: a signal to a
   peer, the wait on the barrier, a copy to a peer, the wait for a copy received and the wait for a copy sent. -/
module

public import proofs.«01_k».proof.Proof.Sched

@[expose] public section

set_option maxRecDepth 16384

noncomputable section

namespace Cert.MlpRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No region varies with the run. -/
abbrev 𝒱₀ : Variants := Variants.none

/-! ## The cells, indexed -/

/-- A device's nineteen cells: its barrier, its nine sends, its nine receives. -/
abbrev csem (k : Fin 19) : SemLoc sig := if k.val = 0 then .reg barS else .dma (⟨7 + k.val, by have := k.isLt; omega⟩ : Fin 26)
abbrev kcell (ck : Dev nD × Fin 19) : GSem nD τ sig := ((ck.1 : Thread nD τ), csem ck.2)
/-- The indices of send `j` and receive `j`. -/
abbrev kS (j : Fin 9) : Fin 19 := ⟨1 + j.val, by have := j.isLt; omega⟩
abbrev kR (j : Fin 9) : Fin 19 := ⟨10 + j.val, by have := j.isLt; omega⟩

theorem kcell_bar (c : Dev nD) : kcell (c, 0) = barCell c := rfl
theorem csem_send (j : Fin 9) : csem (kS j) = .dma (sendS j) := by revert j; decide
theorem csem_recv (j : Fin 9) : csem (kR j) = .dma (recvS j) := by revert j; decide
theorem kcell_send (c : Dev nD) (j : Fin 9) : kcell (c, kS j) = sendCell c j := by unfold kcell; rw [csem_send]
theorem kcell_recv (c : Dev nD) (j : Fin 9) : kcell (c, kR j) = recvCell c j := by unfold kcell; rw [csem_recv]

/-- Every slot counts the same on a copy's semaphore. -/
theorem credit_slot (b : ℕ) {hb} : (slotM b hb).view.dmaCredit = N := by
  unfold N View.dmaCredit
  rfl

variable (A : Dev nD → Args F) (K : Dev nD × Fin 19 → ℕ)

/-- The standing facts: every cell's invariant, under the name the launch gave it, that every cell has reached its
    round, and the order of the waits. -/
def records : sProp 𝕄 :=
  iprop((bigSep Finset.univ fun ck : Dev nD × Fin 19 => cellInv EX (rd A) (K ck) (kcell ck))
    ∗ (bigSep Finset.univ fun ck : Dev nD × Fin 19 => reached EX (kcell ck) 0) ∗ levAts L lv)

instance records_persistent : BI.Persistent (records A K) := by unfold records; infer_instance

theorem reached_all (ck : Dev nD × Fin 19) :
    (bigSep Finset.univ fun ck : Dev nD × Fin 19 => (reached EX (kcell ck) 0 : sProp 𝕄)) ⊢ reached EX (kcell ck) 0 :=
  bigSep_elim (Finset.mem_univ ck)
theorem inv_at (ck : Dev nD × Fin 19) : (records A K : sProp 𝕄) ⊢ cellInv EX (rd A) (K ck) (kcell ck) := by
  exact Laws.sep_and.trans (and_elimL.trans (bigSep_elim (Finset.mem_univ ck)))
theorem reached_at (ck : Dev nD × Fin 19) : (records A K : sProp 𝕄) ⊢ reached EX (kcell ck) 0 := by
  unfold records
  iintro ⟨-, H, -⟩
  iapply (reached_all ck); iexact H
theorem levs_at : (records A K : sProp 𝕄) ⊢ levAts L lv := by unfold records; iintro ⟨-, -, H⟩; iexact H

theorem inv_bar (c : Dev nD) : (records A K : sProp 𝕄) ⊢ cellInv EX (rd A) (K (c, 0)) (barCell c) := inv_at A K (c, 0)
theorem inv_send (c : Dev nD) (j : Fin 9) : (records A K : sProp 𝕄) ⊢ cellInv EX (rd A) (K (c, kS j)) (sendCell c j) := by
  rw [← kcell_send]; exact inv_at A K (c, kS j)
theorem inv_recv (c : Dev nD) (j : Fin 9) : (records A K : sProp 𝕄) ⊢ cellInv EX (rd A) (K (c, kR j)) (recvCell c j) := by
  rw [← kcell_recv]; exact inv_at A K (c, kR j)
theorem reached_bar (c : Dev nD) : (records A K : sProp 𝕄) ⊢ reached EX (barCell c) 0 := reached_at A K (c, 0)
theorem reached_send (c : Dev nD) (j : Fin 9) : (records A K : sProp 𝕄) ⊢ reached EX (sendCell c j) 0 := by
  rw [← kcell_send]; exact reached_at A K (c, kS j)
theorem reached_recv (c : Dev nD) (j : Fin 9) : (records A K : sProp 𝕄) ⊢ reached EX (recvCell c j) 0 := by
  rw [← kcell_recv]; exact reached_at A K (c, kR j)

/-- Device `c` owes `O`, whatever waits it has recorded. -/
def debt (c : Dev nD) (O : CellTallies nD τ sig Unit) : sProp 𝕄 := iprop(∃ W, owes (c : Thread nD τ) O W)

/-- The right to pay copy `j`: its completion on the sender's own cell and on the receiver's. -/
def payTok (c : Dev nD) (j : Fin 9) : sProp 𝕄 :=
  iprop(dutyTok EX (sendCell c j) 0 0 ∗ dutyTok EX (recvCell (peer (dir j.val) c) j) 0 0)

variable (c : Dev nD) {α : Type} {Q : α → sProp (MT nD τ sig Unit (Elt F) ℕ UU ℕ)} {k : PUnit → Prog (TpuEff nD τ sig (Elt F) Λ₀ .tc) α}

/-- The signal of direction `d`: the device gives its peer the slots that peer's copies land in. -/
theorem wp_signal_peer (d : Fin 3) (n : Dev nD) (hn : n = peer d c) {k' : ℕ} (hk : k' = 1) (O : CellTallies nD τ sig Unit)
    {O' : CellTallies nD τ sig Unit} (hO : O' = O + tallyAt (barCell (peer d c)) () 1) :
    iprop(records A K ∗ debt c O' ∗ dutyTok EX (barCell (peer d c)) 0 d
        ∗ slotAny c (d.val + 1) ∗ slotAny c (4 + d.val + 1) ∗ slotAny c (8 + d.val + 1))
      ⊢ iprop((debt c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk hO
  unfold debt
  iintro ⟨#HR, ⟨%W, HO⟩, Ht, H1, H2, H3⟩ Hk
  iapply (Rounds.wp_signal 𝒱₀ EX (rd A) (c : Thread nD τ) none (dst := (peer d c : Thread nD τ)) (κ := K (peer d c, 0)) (W := W)
      (d := d) (by rw [duties_bar]; exact Finset.mem_univ _) (amount_bar A (peer d c) d) () O rfl)
    $$ [HO Ht H1 H2 H3]
  · isplitr; · iapply (inv_bar A K (peer d c)); iexact HR
    isplitl [HO]; · iexact HO
    isplitl [Ht]; · iexact Ht
    isplitl [H1 H2 H3]
    · rw [payload_bar]; unfold barPay; rw [peer_peer]
      isplitl [H1]; · iexact H1
      isplitl [H2]; · iexact H2
      iexact H3
    iapply (reached_bar A K (peer d c)); iexact HR
  iintro HO
  iapply Hk
  iexists W; iexact HO

/-- The wait on the barrier: the device is given the slots of its three peers, and its barrier cell closes. -/
theorem wp_wait_bar {k' : ℕ} (hk : k' = 3) :
    iprop(records A K ∗ debt c (owF c 9) ∗ cred (tallyAt (barCell c) () 3) ∗ atPos EX (barCell c) 0 ∅ 0)
      ⊢ iprop(((debt c (owF c 9) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold debt
  iintro ⟨#HR, ⟨%W, HO⟩, Hc, Hat⟩ Hk
  iapply (Rounds.wp_wait_rest_token 𝒱₀ EX (rd A) (c : Thread nD τ) none (κ := K (c, 0))
      (wpE_semWait_eq 𝒱₀ (c : Thread nD τ) none Set.univ) (Set.mem_univ _) () (O := owF c 9) (W := W) (R := 0) (m := 0) (T := ∅)
      (by rw [expect_bar])) $$ [Hc HO Hat]
  · isplitr; · iapply (inv_bar A K c); iexact HR
    isplitl [Hc]; · iexact Hc
    isplitl [HO]; · iexact HO
    isplitr; · iapply (mayWait_bar c); iapply (levs_at A K); iexact HR
    iexact Hat
  iintro ⟨HO, Hat, -, Hpay⟩
  ihave Hp := (Entails.of_eq (rest_bar A c)) $$ Hpay
  imod (Rounds.cell_close EX (rd A) (Set.mem_univ (K (c, 0))) (fun h => h) (R := 0 + 1) (duties_later A (barCell c))) $$ [Hat] with Hz
  · isplitr; · iapply (inv_bar A K c); iexact HR
    iexact Hat
  iapply Hk
  isplitl [HO]; · iexists _; iexact HO
  isplitl [Hz]; · iexact Hz
  iexact Hp

/-- Copy `j`: the device lends its slot to the copy and hands over the peer's slot, and is owed the completion. -/
theorem wp_copy_peer (j : Fin 9) (n : Dev nD) (hn : n = peer (dir j.val) c) {s r : DmaSem sig} (hs : s = sendS j) (hr : r = recvS j)
    {a b : ℕ} {ha} {hb} (ea : 4 * (j.val / 3) = a) (eb : 4 * (j.val / 3) + j.val % 3 + 1 = b)
    {hsc : (slotM b hb : Memref sig (Dev.tc n : Thread nD τ).2.kind .vmem S256x512 .bf16).view.ref.isScScratch = false}
    {hsrc : (slotM a ha).view.WordExact} {hdst : (slotM b hb).view.WordExact}
    {hsem : DmaTarget.Typed .vmem (.dma r) (.remote (Dev.tc n : Thread nD τ) (slotM b hb : Memref sig (Dev.tc n : Thread nD τ).2.kind .vmem S256x512 .bf16) (.dma s) hsc)} :
    iprop(records A K ∗ debt c (owF c (9 - j.val)) ∗ payTok c j ∗ sendPay A c j.val ∗ slotAny (peer (dir j.val) c) (4 * (j.val / 3) + j.val % 3 + 1))
      ⊢ iprop(((debt c (owF c (8 - j.val)) ∗ cred (tallyAt (sendCell c j) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM a ha) (.remote (Dev.tc n : Thread nD τ) (slotM b hb) (.dma s) hsc) (.dma r) hsrc hdst hsem) k) Q) := by
  subst hn hs hr ea eb
  unfold debt payTok slotAny
  iintro ⟨#HR, ⟨%W, HO⟩, ⟨HtS, HtR⟩, Hsrc, ⟨%fd, Hdst⟩⟩ Hk
  have hO : owF c (9 - j.val) = owF c (8 - j.val) + tallyAt (recvCell (peer (dir j.val) c) j) () N := by
    have hj := j.isLt
    obtain ⟨i, hi⟩ : ∃ i, i = 8 - j.val := ⟨_, rfl⟩
    have e : 9 - j.val = i + 1 := by omega
    have e' : 8 - i = j.val := by omega
    rw [e, ← hi, owF]
    simp only [e']
  have hp1 : (((c : Thread nD τ).loc cc0_scratch0 ↦[(slotM (4 * (j.val / 3)) ha).view.set]{lend (dir j.val)} spread (up (part A (j.val / 3) c))) : sProp 𝕄)
      = sendPay A c j.val := by
    unfold sendPay slotAt; rw [slotM_set]
  have hp2 (f : (cc0_scratch0 : Ref sig .tc).ty.Contents (Elt F)) :
      ((((peer (dir j.val) c : Dev nD) : Thread nD τ).loc cc0_scratch0 ↦[(slotM (4 * (j.val / 3) + j.val % 3 + 1) hb).view.set]{fullShare} f) : sProp 𝕄)
        = slotAt (peer (dir j.val) c) (4 * (j.val / 3) + j.val % 3 + 1) fullShare f := by
    unfold slotAt; rw [slotM_set]
  iapply (Rounds.wp_send_pointsTo 𝒱₀ EX (rd A) (c : Thread nD τ) none (κ₁ := K (c, kS j)) (κ₂ := K (peer (dir j.val) c, kR j))
    (r₁ := 0) (r₂ := 0) (d₁ := 0) (d₂ := 0) (fd := fd) (fs := spread (up (part A (j.val / 3) c))) (q := lend (dir j.val))
    (by rw [duties_send]; exact Finset.mem_singleton_self _) (by rw [duties_recv]; exact Finset.mem_singleton_self _)
    () () N (by exact credit_slot _) (amount_send A c j 0) (amount_recv A (peer (dir j.val) c) j 0) (owF c (8 - j.val)) hO (W := W)
    (by rw [payload_send]; exact Entails.of_eq hp1)
    (by
      rw [payload_recv]
      unfold recvPay
      rw [peer_peer]
      exact Entails.of_eq ((hp2 _).trans (slotAt_congr _ _ _ _ _ fun i hi => copy_slot _ _ ha hb fd _ i hi))))
    $$ [HO HtS HtR Hsrc Hdst]
  · isplitr; · iapply (inv_send A K c j); iexact HR
    isplitr; · iapply (inv_recv A K (peer (dir j.val) c) j); iexact HR
    isplitl [Hsrc]; · iapply (Entails.of_eq hp1.symm); iexact Hsrc
    isplitl [Hdst]; · iapply (Entails.of_eq (hp2 fd).symm); iexact Hdst
    isplitl [HO]; · iexact HO
    isplitl [HtS]; · iexact HtS
    isplitr; · iapply (reached_send A K c j); iexact HR
    isplitl [HtR]; · iexact HtR
    iapply (reached_recv A K (peer (dir j.val) c) j); iexact HR
  iintro ⟨Hc, HO⟩
  iapply Hk
  isplitl [HO]; · iexists W; iexact HO
  iexact Hc

/-- The wait for receive `j`: the device is given its slot holding the peer's partial product, and the cell closes. -/
theorem wp_wait_recv (j : Fin 9) {r : DmaSem sig} (hr : r = recvS j) {a b : ℕ} {ha} {hb}
    {hsrc : (slotM a ha).view.WordExact} {hdst : (slotM b hb).view.WordExact} :
    iprop(records A K ∗ debt c (owF c (6 - 3 * (j.val / 3))) ∗ cred (tallyAt (recvCell c j) () N) ∗ atPos EX (recvCell c j) 0 ∅ 0)
      ⊢ iprop(((debt c (owF c (6 - 3 * (j.val / 3))) ∗ semVal (recvCell c j) 0 ∗ recvPay A c j.val)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 r (slotM a ha) (slotM b hb) hsrc hdst) k) Q) := by
  subst hr
  unfold debt
  iintro ⟨#HR, ⟨%W, HO⟩, Hc, Hat⟩ Hk
  iapply (Rounds.wp_wait_rest_token 𝒱₀ EX (rd A) (c : Thread nD τ) none (κ := K (c, kR j))
      (wpE_waitDma2_eq 𝒱₀ (c : Thread nD τ) none Set.univ) (Set.mem_univ _) () (O := owF c (6 - 3 * (j.val / 3))) (W := W) (R := 0) (m := 0) (T := ∅)
      (by rw [Nat.zero_add, expect_recv])) $$ [Hc HO Hat]
  · isplitr; · iapply (inv_recv A K c j); iexact HR
    isplitl [Hc]; · iexact Hc
    isplitl [HO]; · iexact HO
    isplitr; · iapply (mayWait_recv c j); iapply (levs_at A K); iexact HR
    iexact Hat
  iintro ⟨HO, Hat, -, Hpay⟩
  ihave Hp := (Entails.of_eq (rest_recv A c j)) $$ Hpay
  imod (Rounds.cell_close EX (rd A) (Set.mem_univ (K (c, kR j))) (fun h => h) (R := 0 + 1) (duties_later A (recvCell c j))) $$ [Hat] with Hz
  · isplitr; · iapply (inv_recv A K c j); iexact HR
    iexact Hat
  iapply Hk
  isplitl [HO]; · iexists _; iexact HO
  isplitl [Hz]; · iexact Hz
  iexact Hp

/-- The wait for send `j`: the share lent comes back, and the cell closes. -/
theorem wp_wait_send (j : Fin 9) {s : DmaSem sig} (hs : s = sendS j) {a b : ℕ} {ha} {hb}
    {hsrc : (slotM a ha).view.WordExact} {hdst : (slotM b hb).view.WordExact} :
    iprop(records A K ∗ debt c 0 ∗ cred (tallyAt (sendCell c j) () N) ∗ atPos EX (sendCell c j) 0 ∅ 0)
      ⊢ iprop(((debt c 0 ∗ semVal (sendCell c j) 0 ∗ sendPay A c j.val)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s (slotM a ha) (slotM b hb) hsrc hdst) k) Q) := by
  subst hs
  unfold debt
  iintro ⟨#HR, ⟨%W, HO⟩, Hc, Hat⟩ Hk
  iapply (Rounds.wp_wait_rest_token 𝒱₀ EX (rd A) (c : Thread nD τ) none (κ := K (c, kS j))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send A K c j); iexact HR
    isplitl [Hc]; · iexact Hc
    isplitl [HO]; · iexact HO
    isplitr; · rw [MayWait_zero]; iempintro
    iexact Hat
  iintro ⟨HO, Hat, -, Hpay⟩
  ihave Hp := (Entails.of_eq (rest_send A c j)) $$ Hpay
  imod (Rounds.cell_close EX (rd A) (Set.mem_univ (K (c, kS j))) (fun h => h) (R := 0 + 1) (duties_later A (sendCell c j))) $$ [Hat] with Hz
  · isplitr; · iapply (inv_send A K c j); iexact HR
    iexact Hat
  iapply Hk
  isplitl [HO]; · iexists _; iexact HO
  isplitl [Hz]; · iexact Hz
  iexact Hp

/-- A load of a slot held at a spread block gives that block. -/
theorem wp_load_slot {a : ℕ} {ha} {q : PosShare TreeShare} {u : Vec F S1x256x512 .bf16} {hl : scr.view.LoadsAt (slotR a ha).toLoadRect}
    {kl : (S1x256x512.Idx → Elt F .bf16) → Prog (TpuEff nD τ sig (Elt F) Λ₀ .tc) α} :
    (slotAt c a q (spread u) : sProp 𝕄)
      ⊢ iprop((slotAt c a q (spread u) -∗ wp frame (wpE (defs₀ (F := F)) 𝒱₀ (c : Thread nD τ) none) Set.univ (kl u) Q)
          -∗ wp frame (wpE (defs₀ (F := F)) 𝒱₀ (c : Thread nD τ) none) Set.univ (.op (.load scr (slotR a ha).toLoadRect hl) kl) Q) := by
  unfold slotAt
  iintro H Hk
  iapply (wp_load (defs := defs₀ (F := F)) 𝒱₀ (c : Thread nD τ) none Set.univ (m := scr) (r := (slotR a ha).toLoadRect) (S := slotSet a) (f := spread u)
    (by rw [← access_set a ha]; exact le_of_eq (View.set_slice _ _).symm)) $$ H
  rw [read_slot]
  iexact Hk

/-- A store of a slot leaves it holding the block stored. -/
theorem wp_store_slot {a : ℕ} {ha} {u : Vec F S1x256x512 .bf16} {hx : (scr.access (slotR a ha)).Stores Finset.univ}
    {hm : (Finset.univ : Finset S1x256x512.Idx) = Finset.univ ∨ ∀ b, (slotR a ha).stride b = 1} :
    (slotAny c a : sProp 𝕄)
      ⊢ iprop((slotAt c a fullShare (spread u) -∗ wp frame (wpE (defs₀ (F := F)) 𝒱₀ (c : Thread nD τ) none) Set.univ (k ⟨⟩) Q)
          -∗ wp frame (wpE (defs₀ (F := F)) 𝒱₀ (c : Thread nD τ) none) Set.univ (.op (.store scr (slotR a ha) u Finset.univ hx hm) k) Q) := by
  unfold slotAny
  iintro ⟨%f, H⟩ Hk
  ihave H := (Entails.of_eq (show slotAt c a fullShare f = ((((c : Thread nD τ).loc cc0_scratch0) ↦[slotSet a]{fullShare} f) : sProp 𝕄) from rfl)) $$ H
  iapply (wp_store (defs := defs₀ (F := F)) 𝒱₀ (c : Thread nD τ) none Set.univ (m := scr) (r := slotR a ha) (Mk := Finset.univ) (S := slotSet a) (f := f)
    (by rw [← access_set a ha]; exact View.setOn_subset_set _ _)) $$ H
  iintro H
  iapply Hk
  iapply (Entails.of_eq (slotAt_congr c a fullShare _ _ fun i hi => write_slot a ha f u i hi))
  unfold slotAt
  iexact H

/-- A load of a slot held at any contents. -/
theorem wp_load_any {a : ℕ} {ha} {hl : scr.view.LoadsAt (slotR a ha).toLoadRect}
    {kl : (S1x256x512.Idx → Elt F .bf16) → Prog (TpuEff nD τ sig (Elt F) Λ₀ .tc) α} :
    (slotAny c a : sProp 𝕄)
      ⊢ iprop((∀ v, slotAny c a -∗ wp frame (wpE (defs₀ (F := F)) 𝒱₀ (c : Thread nD τ) none) Set.univ (kl v) Q)
          -∗ wp frame (wpE (defs₀ (F := F)) 𝒱₀ (c : Thread nD τ) none) Set.univ (.op (.load scr (slotR a ha).toLoadRect hl) kl) Q) := by
  unfold slotAny slotAt
  iintro ⟨%f, H⟩ Hk
  iapply (wp_load (defs := defs₀ (F := F)) 𝒱₀ (c : Thread nD τ) none Set.univ (m := scr) (r := (slotR a ha).toLoadRect) (S := slotSet a) (f := f)
    (by rw [← access_set a ha]; exact le_of_eq (View.set_slice _ _).symm)) $$ H
  iintro H
  iapply Hk
  iexists f; iexact H

end Cert.MlpRun

end
-- ==== Proof.Body.lean ====
/- The kernel's program run once on a device: from the blocks handed to it and its share of the exchange, to its block of
   the result. -/
module

public import proofs.«01_k».proof.Proof.Steps
public import proofs.«01_k».proof.Proof.Gen.KernelIdeal.Skeleton
public import proofs.«01_k».proof.Proof.Gen.KernelIdeal.Points

@[expose] public section

set_option maxRecDepth 16384

noncomputable section

namespace Cert.MlpRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The life of a copy

    A device's share of copy `j`, its own send and its own receive of the same index, passes through four stages. -/

/-- Before: the right to pay for the send, and what the receive will bring. -/
def item (c : Dev nD) (j : Fin 9) : sProp 𝕄 :=
  iprop(payTok c j ∗ cred (tallyAt (recvCell c j) () N) ∗ atPos EX (recvCell c j) 0 ∅ 0 ∗ atPos EX (sendCell c j) 0 ∅ 0)
/-- Sent: the device is owed the completion of its send as well. -/
def itemSent (c : Dev nD) (j : Fin 9) : sProp 𝕄 :=
  iprop(cred (tallyAt (sendCell c j) () N) ∗ cred (tallyAt (recvCell c j) () N) ∗ atPos EX (recvCell c j) 0 ∅ 0 ∗ atPos EX (sendCell c j) 0 ∅ 0)
/-- Received: the receive's cell is closed at zero. -/
def itemRecv (c : Dev nD) (j : Fin 9) : sProp 𝕄 :=
  iprop(semVal (recvCell c j) 0 ∗ cred (tallyAt (sendCell c j) () N) ∗ atPos EX (sendCell c j) 0 ∅ 0)
/-- Done: both cells are closed at zero. -/
def itemDone (c : Dev nD) (j : Fin 9) : sProp 𝕄 := iprop(semVal (sendCell c j) 0 ∗ semVal (recvCell c j) 0)

/-- Nine summands written out. -/
theorem bigSep_nine (Φ : Fin 9 → sProp 𝕄) : bigSep Finset.univ Φ
    = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ
/-- Twelve summands written out. -/
theorem bigSep_twelve (Φ : Fin 12 → sProp 𝕄) : bigSep Finset.univ Φ
    = iprop(Φ (0 : Fin 12) ∗ Φ (1 : Fin 12) ∗ Φ (2 : Fin 12) ∗ Φ (3 : Fin 12) ∗ Φ (4 : Fin 12) ∗ Φ (5 : Fin 12) ∗ Φ (6 : Fin 12) ∗ Φ (7 : Fin 12) ∗ Φ (8 : Fin 12)
      ∗ Φ (9 : Fin 12) ∗ Φ (10 : Fin 12) ∗ Φ (11 : Fin 12)) :=
  bigSep_univ_eq_bigSepL [(0 : Fin 12), (1 : Fin 12), (2 : Fin 12), (3 : Fin 12), (4 : Fin 12), (5 : Fin 12), (6 : Fin 12), (7 : Fin 12), (8 : Fin 12), (9 : Fin 12), (10 : Fin 12), (11 : Fin 12)]
    (by decide) (by decide) Φ

section Stages

variable (A : Dev nD → Args F) (K : Dev nD × Fin 19 → ℕ)
variable (c : Dev nD) {α : Type} {Q : α → sProp (MT nD τ sig Unit (Elt F) ℕ UU ℕ)} {k : PUnit → Prog (TpuEff nD τ sig (Elt F) Λ₀ .tc) α}
variable (j : Fin 9) (l : ℕ) (i : Fin 3)

theorem sendPay_eq (hj : j.val = 3 * l + i.val) {a : ℕ} (ea : 4 * l = a) :
    (sendPay A c j.val : sProp 𝕄) = slotAt c a (lend i) (spread (up (part A l c))) := by
  have hi := i.isLt
  have h3 : j.val / 3 = l := by omega
  have hd : dir j.val = i := Fin.ext (by show j.val % 3 = i.val; omega)
  unfold sendPay; rw [h3, hd, ea]

theorem recvPay_eq (hj : j.val = 3 * l + i.val) {b : ℕ} (eb : 4 * l + i.val + 1 = b) :
    (recvPay A c j.val : sProp 𝕄) = slotAt c b fullShare (spread (up (part A l (peer i c)))) := by
  have hi := i.isLt
  have h3 : j.val / 3 = l := by omega
  have hd : dir j.val = i := Fin.ext (by show j.val % 3 = i.val; omega)
  have hm : j.val % 3 = i.val := by omega
  unfold recvPay; rw [h3, hd, hm, eb]

/-- Copy `j`, of layer `l` in direction `i`: the share lent and the peer's landing slot go with it. -/
theorem wp_copy_item (n' : ℕ) (hj : j.val = 3 * l + i.val) (hn' : n' + j.val = 8) (n : Dev nD) (hn : n = peer i c) {s r : DmaSem sig}
    (hs : s = sendS j) (hr : r = recvS j) {a b : ℕ} {ha} {hb} (ea : 4 * l = a) (eb : 4 * l + i.val + 1 = b)
    {hsc : (slotM b hb : Memref sig (Dev.tc n : Thread nD τ).2.kind .vmem S256x512 .bf16).view.ref.isScScratch = false}
    {hsrc : (slotM a ha).view.WordExact} {hdst : (slotM b hb).view.WordExact}
    {hsem : DmaTarget.Typed .vmem (.dma r) (.remote (Dev.tc n : Thread nD τ) (slotM b hb : Memref sig (Dev.tc n : Thread nD τ).2.kind .vmem S256x512 .bf16) (.dma s) hsc)} :
    iprop(records A K ∗ debt c (owF c (n' + 1)) ∗ item c j ∗ slotAt c a (lend i) (spread (up (part A l c))) ∗ slotAny (peer i c) b)
      ⊢ iprop(((debt c (owF c n') ∗ itemSent c j)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM a ha) (.remote (Dev.tc n : Thread nD τ) (slotM b hb) (.dma s) hsc) (.dma r) hsrc hdst hsem) k) Q) := by
  have hi := i.isLt
  have h3 : j.val / 3 = l := by omega
  have hd : dir j.val = i := Fin.ext (by show j.val % 3 = i.val; omega)
  have hm : j.val % 3 = i.val := by omega
  rw [show n' + 1 = 9 - j.val by omega, show n' = 8 - j.val by omega, ← sendPay_eq A c j l i hj ea]
  unfold item itemSent
  iintro ⟨#HR, HO, ⟨Hp, HcR, HaR, HaS⟩, Hsrc, Hdst⟩ Hk
  iapply (wp_copy_peer A K c j n (by rw [hd, hn]) hs hr (by rw [h3, ea]) (by rw [h3, hm, eb])) $$ [HO Hp Hsrc Hdst]
  · isplitr; · iexact HR
    isplitl [HO]; · iexact HO
    isplitl [Hp]; · iexact Hp
    isplitl [Hsrc]; · iexact Hsrc
    rw [h3, hm, hd, eb]; iexact Hdst
  iintro ⟨HO, HcS⟩
  iapply Hk
  isplitl [HO]; · iexact HO
  isplitl [HcS]; · iexact HcS
  isplitl [HcR]; · iexact HcR
  isplitl [HaR]; · iexact HaR
  iexact HaS

/-- The wait for receive `j`, of layer `l` from the peer in direction `i`. -/
theorem wp_recv_item (n' : ℕ) (hj : j.val = 3 * l + i.val) (hn' : n' + 3 * l = 6) {r : DmaSem sig} (hr : r = recvS j) {a b b' : ℕ} {ha} {hb}
    (eb : 4 * l + i.val + 1 = b') {hsrc : (slotM a ha).view.WordExact} {hdst : (slotM b hb).view.WordExact} :
    iprop(records A K ∗ debt c (owF c n') ∗ itemSent c j)
      ⊢ iprop(((debt c (owF c n') ∗ itemRecv c j ∗ slotAt c b' fullShare (spread (up (part A l (peer i c)))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 r (slotM a ha) (slotM b hb) hsrc hdst) k) Q) := by
  have hi := i.isLt
  rw [show n' = 6 - 3 * (j.val / 3) by omega, ← recvPay_eq A c j l i hj eb]
  unfold itemRecv itemSent
  iintro ⟨#HR, HO, ⟨HcS, HcR, HaR, HaS⟩⟩ Hk
  iapply (wp_wait_recv A K c j hr) $$ [HO HcR HaR]
  · isplitr; · iexact HR
    isplitl [HO]; · iexact HO
    isplitl [HcR]; · iexact HcR
    iexact HaR
  iintro ⟨HO, Hz, Hp⟩
  iapply Hk
  isplitl [HO]; · iexact HO
  isplitl [Hz HcS HaS]
  · isplitl [Hz]; · iexact Hz
    isplitl [HcS]; · iexact HcS
    iexact HaS
  iexact Hp

/-- The wait for send `j`: the share lent comes back. -/
theorem wp_done_item (hj : j.val = 3 * l + i.val) {s : DmaSem sig} (hs : s = sendS j) {a b a' : ℕ} {ha} {hb}
    (ea : 4 * l = a') {hsrc : (slotM a ha).view.WordExact} {hdst : (slotM b hb).view.WordExact} :
    iprop(records A K ∗ debt c 0 ∗ itemRecv c j)
      ⊢ iprop(((debt c 0 ∗ itemDone c j ∗ slotAt c a' (lend i) (spread (up (part A l c))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s (slotM a ha) (slotM b hb) hsrc hdst) k) Q) := by
  rw [← sendPay_eq A c j l i hj ea]
  unfold itemRecv itemDone
  iintro ⟨#HR, HO, ⟨Hz, HcS, HaS⟩⟩ Hk
  iapply (wp_wait_send A K c j hs) $$ [HO HcS HaS]
  · isplitr; · iexact HR
    isplitl [HO]; · iexact HO
    isplitl [HcS]; · iexact HcS
    iexact HaS
  iintro ⟨HO, Hz', Hp⟩
  iapply Hk
  isplitl [HO]; · iexact HO
  isplitl [Hz Hz']
  · isplitl [Hz']; · iexact Hz'
    iexact Hz
  iexact Hp

end Stages

/-! ## The slots, written out -/

/-- The buffer of slots, whole. -/
def scratch (c : Dev nD) : sProp 𝕄 := iprop(∃ f : Buf (Elt F) ((c : Thread nD τ).loc cc0_scratch0), ((c : Thread nD τ).loc cc0_scratch0) ↦{fullShare} f)

/-- The twelve slots, each at some contents. -/
def slots (c : Dev nD) : sProp 𝕄 :=
  iprop(slotAny c 0 ∗ slotAny c 1 ∗ slotAny c 2 ∗ slotAny c 3 ∗ slotAny c 4 ∗ slotAny c 5 ∗ slotAny c 6 ∗ slotAny c 7 ∗ slotAny c 8 ∗ slotAny c 9
    ∗ slotAny c 10 ∗ slotAny c 11)

theorem slots_open (c : Dev nD) : (scratch c : sProp 𝕄) ⊢ slots c := by
  have h (f : Buf (Elt F) ((c : Thread nD τ).loc cc0_scratch0)) := scr_cut c f
  simp only [bigSep_twelve] at h
  unfold scratch
  iintro ⟨%f, H⟩
  iapply (show (((c : Thread nD τ).loc cc0_scratch0) ↦{fullShare} f : sProp 𝕄) ⊢ slots c from h f)
  iexact H

theorem slots_close (c : Dev nD) (f₀ : Buf (Elt F) ((c : Thread nD τ).loc cc0_scratch0)) : (slots c : sProp 𝕄) ⊢ scratch c := by
  have h := scr_join c f₀
  rw [bigSep_twelve] at h
  exact h

/-- The three shares of a slot lent to copies make the slot again. -/
theorem slot_back (c : Dev nD) (a : ℕ) (f : (cc0_scratch0 : Ref sig .tc).ty.Contents (Elt F)) :
    (iprop(slotAt c a (lend 0) f ∗ slotAt c a (lend 1) f ∗ slotAt c a (lend 2) f) : sProp 𝕄) ⊢ slotAny c a :=
  (lend_split c a f).2.trans (slotAt_any c a f)

/-! ## The run of the body -/

theorem hz : (![0, 0] : Fin 2 → Nat) = fun _ => 0 := funext fun a => by fin_cases a <;> rfl

/-- A load of a whole staging buffer reads its contents, and a store of one leaves what is stored. -/
theorem read_stg0 (f : (cc0_stg0_0 : Ref sig .tc).ty.Contents (Elt F)) (h) :
    (Memref.whole cc0_stg0_0 : Memref sig .tc .vmem S256x256 .bf16).view.readAt (Elt F) (Rect.unit (s := S256x256) ![0, 0] S256x256.size h).toLoadRect f = f :=
  Memref.readAt_unit_zero (Elt F) cc0_stg0_0 hz _ f
theorem read_stg1 (f : (cc0_stg1_0 : Ref sig .tc).ty.Contents (Elt F)) (h) :
    (Memref.whole cc0_stg1_0 : Memref sig .tc .vmem S256x512 .bf16).view.readAt (Elt F) (Rect.unit (s := S256x512) ![0, 0] S256x512.size h).toLoadRect f = f :=
  Memref.readAt_unit_zero (Elt F) cc0_stg1_0 hz _ f
theorem read_stg2 (f : (cc0_stg2_0 : Ref sig .tc).ty.Contents (Elt F)) (h) :
    (Memref.whole cc0_stg2_0 : Memref sig .tc .vmem S512x256 .bf16).view.readAt (Elt F) (Rect.unit (s := S512x256) ![0, 0] S512x256.size h).toLoadRect f = f :=
  Memref.readAt_unit_zero (Elt F) cc0_stg2_0 hz _ f
theorem read_stg3 (f : (cc0_stg3_0 : Ref sig .tc).ty.Contents (Elt F)) (h) :
    (Memref.whole cc0_stg3_0 : Memref sig .tc .vmem S256x512 .bf16).view.readAt (Elt F) (Rect.unit (s := S256x512) ![0, 0] S256x512.size h).toLoadRect f = f :=
  Memref.readAt_unit_zero (Elt F) cc0_stg3_0 hz _ f
theorem read_stg4 (f : (cc0_stg4_0 : Ref sig .tc).ty.Contents (Elt F)) (h) :
    (Memref.whole cc0_stg4_0 : Memref sig .tc .vmem S512x256 .bf16).view.readAt (Elt F) (Rect.unit (s := S512x256) ![0, 0] S512x256.size h).toLoadRect f = f :=
  Memref.readAt_unit_zero (Elt F) cc0_stg4_0 hz _ f
theorem read_stg5 (f : (cc0_stg5_0 : Ref sig .tc).ty.Contents (Elt F)) (h) :
    (Memref.whole cc0_stg5_0 : Memref sig .tc .vmem S256x512 .bf16).view.readAt (Elt F) (Rect.unit (s := S256x512) ![0, 0] S256x512.size h).toLoadRect f = f :=
  Memref.readAt_unit_zero (Elt F) cc0_stg5_0 hz _ f
theorem read_stg6 (f : (cc0_stg6_0 : Ref sig .tc).ty.Contents (Elt F)) (h) :
    (Memref.whole cc0_stg6_0 : Memref sig .tc .vmem S512x256 .bf16).view.readAt (Elt F) (Rect.unit (s := S512x256) ![0, 0] S512x256.size h).toLoadRect f = f :=
  Memref.readAt_unit_zero (Elt F) cc0_stg6_0 hz _ f
theorem write_stg7 (f w : (cc0_stg7_0 : Ref sig .tc).ty.Contents (Elt F)) (h) :
    ((Memref.whole cc0_stg7_0 : Memref sig .tc .vmem S256x256 .bf16).access (Rect.unit (s := S256x256) ![0, 0] S256x256.size h) : View sig .tc _ _ _).write
      (Elt F) f w Finset.univ = w :=
  Memref.write_access_unit_zero_univ (Elt F) cc0_stg7_0 hz _ f w

variable (A : Dev nD → Args F)

/-- The blocks as the program stores them are the partial products. -/
theorem stored0 (c : Dev nD) : k0_pay2 (A c).x (A c).win0 = up (part A 0 c) := rfl
theorem stored1 (c : Dev nD) :
    k0_pay5 (k0_pay3 (k0_pay1 (A c).x (A c).win0) (up (part A 0 (peer 0 c)))) (up (part A 0 (peer 1 c))) (up (part A 0 (peer 2 c))) (A c).wout0 (A c).win1
      = up (part A 1 c) := rfl
theorem stored2 (c : Dev nD) :
    k0_pay9 (k0_pay6 (k0_pay4 (k0_pay3 (k0_pay1 (A c).x (A c).win0) (up (part A 0 (peer 0 c)))) (up (part A 0 (peer 1 c))) (up (part A 0 (peer 2 c))) (A c).wout0 (A c).win1)
      (up (part A 1 (peer 0 c))) (up (part A 1 (peer 1 c))) (up (part A 1 (peer 2 c)))) (k0_pay7 (A c).wout1)
      (constant S256x256 .f32 0x00000000#32) (A c).win2 = up (part A 2 c) := rfl
theorem stored3 (c : Dev nD) :
    k0_pay10 (k0_pay8 (k0_pay6 (k0_pay4 (k0_pay3 (k0_pay1 (A c).x (A c).win0) (up (part A 0 (peer 0 c)))) (up (part A 0 (peer 1 c))) (up (part A 0 (peer 2 c))) (A c).wout0 (A c).win1)
      (up (part A 1 (peer 0 c))) (up (part A 1 (peer 1 c))) (up (part A 1 (peer 2 c)))) (k0_pay7 (A c).wout1)
      (constant S256x256 .f32 0x00000000#32) (A c).win2)
      (up (part A 2 (peer 0 c))) (up (part A 2 (peer 1 c))) (up (part A 2 (peer 2 c))) (A c).wout2 = result A c := rfl

/-- A device's part in the exchange: the standing facts, its barrier's position, credit and the duties it pays to its
    peers' barriers, and its share of each copy. -/
def exch (c : Dev nD) : sProp 𝕄 :=
  iprop((∃ K, records A K) ∗ atPos EX (barCell c) 0 ∅ 0 ∗ cred (tallyAt (barCell c) () 3)
    ∗ (dutyTok EX (barCell (peer 0 c)) 0 0 ∗ dutyTok EX (barCell (peer 1 c)) 0 1 ∗ dutyTok EX (barCell (peer 2 c)) 0 2)
    ∗ bigSep Finset.univ fun j : Fin 9 => item c j)

/-- What the exchange leaves: every one of the device's cells closed at zero. -/
def closed (c : Dev nD) : sProp 𝕄 := iprop(semVal (barCell c) 0 ∗ bigSep Finset.univ fun j : Fin 9 => itemDone c j)

/-- The blocks handed to the device, in their staging buffers. -/
def inputs (c : Dev nD) : sProp 𝕄 :=
  iprop((((c : Thread nD τ).loc cc0_stg0_0) ↦{fullShare} (A c).x) ∗ (((c : Thread nD τ).loc cc0_stg1_0) ↦{fullShare} (A c).win0)
    ∗ (((c : Thread nD τ).loc cc0_stg2_0) ↦{fullShare} (A c).wout0) ∗ (((c : Thread nD τ).loc cc0_stg3_0) ↦{fullShare} (A c).win1)
    ∗ (((c : Thread nD τ).loc cc0_stg4_0) ↦{fullShare} (A c).wout1) ∗ (((c : Thread nD τ).loc cc0_stg5_0) ↦{fullShare} (A c).win2)
    ∗ (((c : Thread nD τ).loc cc0_stg6_0) ↦{fullShare} (A c).wout2))

def bodyPre (c : Dev nD) (g7 : (cc0_stg7_0 : Ref sig .tc).ty.Contents (Elt F)) : sProp 𝕄 :=
  iprop(exch A c ∗ scratch c ∗ debt c (O₀ c) ∗ inputs A c ∗ (((c : Thread nD τ).loc cc0_stg7_0) ↦{fullShare} g7))

def bodyPost (c : Dev nD) : sProp 𝕄 :=
  iprop(closed c ∗ scratch c ∗ debt c 0 ∗ inputs A c ∗ (((c : Thread nD τ).loc cc0_stg7_0) ↦{fullShare} result A c))

set_option maxHeartbeats 8000000 in
/-- The body run on device `c`, one rule per effect in program order. -/
theorem sound_body (c : Dev nD) (g7 : (cc0_stg7_0 : Ref sig .tc).ty.Contents (Elt F)) (Kt : PUnit → sProp 𝕄) :
    iprop(bodyPre A c g7 ∗ (bodyPost A c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (Memref.whole cc0_scratch0) (Memref.isWhole_whole _)
            cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre exch inputs
  rw [bigSep_nine]
  iintro ⟨⟨⟨⟨%K, #HR⟩, HaB, HcB, ⟨Ht0, Ht1, Ht2⟩, ⟨J0, J1, J2, J3, J4, J5, J6, J7, J8⟩⟩, Hscr, HO, ⟨H0, H1, H2, H3, H4, H5, H6⟩, H7⟩, Hk⟩
  ihave Hs := (slots_open c) $$ Hscr
  unfold slots
  icases Hs with ⟨S0, S1, S2, S3, S4, S5, S6, S7, S8, S9, S10, S11⟩
  -- each of the peers is given the slots its copies land in
  iapply (wp_signal_peer A K c 1 _ (dev1_eq c) (by decide) (owF c 9 + tallyAt (barCell (peer 0 c)) () 1 + tallyAt (barCell (peer 2 c)) () 1) rfl) $$ [HO Ht1 S2 S6 S10]
  · isplitr; · iexact HR
    isplitl [HO]; · iexact HO
    isplitl [Ht1]; · iexact Ht1
    isplitl [S2]; · iexact S2
    isplitl [S6]; · iexact S6
    iexact S10
  iintro HO
  iapply (wp_signal_peer A K c 2 _ (dev2_eq c) (by decide) (owF c 9 + tallyAt (barCell (peer 0 c)) () 1) rfl) $$ [HO Ht2 S3 S7 S11]
  · isplitr; · iexact HR
    isplitl [HO]; · iexact HO
    isplitl [Ht2]; · iexact Ht2
    isplitl [S3]; · iexact S3
    isplitl [S7]; · iexact S7
    iexact S11
  iintro HO
  iapply (wp_signal_peer A K c 0 _ (dev3_eq c) (by decide) (owF c 9) rfl) $$ [HO Ht0 S1 S5 S9]
  · isplitr; · iexact HR
    isplitl [HO]; · iexact HO
    isplitl [Ht0]; · iexact Ht0
    isplitl [S1]; · iexact S1
    isplitl [S5]; · iexact S5
    iexact S9
  iintro HO
  -- and gives this device theirs
  iapply (wp_wait_bar A K c (by decide)) $$ [HO HcB HaB]
  · isplitr; · iexact HR
    isplitl [HO]; · iexact HO
    isplitl [HcB]; · iexact HcB
    iexact HaB
  unfold barPay
  iintro ⟨HO, HzB, ⟨P1, P5, P9⟩, ⟨P2, P6, P10⟩, ⟨P3, P7, P11⟩⟩
  -- the first layer
  iapply (wp_load 𝒱₀ (c : Thread nD τ) none Set.univ (m := Memref.whole cc0_stg0_0) (Finset.subset_univ _)) $$ H0; iintro H0
  rw [read_stg0]
  iapply (wp_load 𝒱₀ (c : Thread nD τ) none Set.univ (m := Memref.whole cc0_stg1_0) (Finset.subset_univ _)) $$ H1; iintro H1
  rw [read_stg1]
  iapply (wp_load_any c (a := 0)) $$ S0; iintro %_ S0
  iapply (wp_store_slot c (a := 0)) $$ S0; iintro S0
  rw [stored0]
  icases (lend_split c 0 _).1 $$ S0 with ⟨L00, L01, L02⟩
  iapply (wp_copy_item A K c 0 0 0 8 (by decide) (by decide) _ (dev4_eq c) (sendS_eq 0 _) (recvS_eq 0 _) rfl rfl) $$ [HO J0 L00 P1]
  · isplitr; · iexact HR
    isplitl [HO]; · iexact HO
    isplitl [J0]; · iexact J0
    isplitl [L00]; · iexact L00
    iexact P1
  iintro ⟨HO, J0⟩
  iapply (wp_copy_item A K c 1 0 1 7 (by decide) (by decide) _ (dev5_eq c) (sendS_eq 1 _) (recvS_eq 1 _) rfl rfl) $$ [HO J1 L01 P2]
  · isplitr; · iexact HR
    isplitl [HO]; · iexact HO
    isplitl [J1]; · iexact J1
    isplitl [L01]; · iexact L01
    iexact P2
  iintro ⟨HO, J1⟩
  iapply (wp_copy_item A K c 2 0 2 6 (by decide) (by decide) _ (dev6_eq c) (sendS_eq 2 _) (recvS_eq 2 _) rfl rfl) $$ [HO J2 L02 P3]
  · isplitr; · iexact HR
    isplitl [HO]; · iexact HO
    isplitl [J2]; · iexact J2
    isplitl [L02]; · iexact L02
    iexact P3
  iintro ⟨HO, J2⟩
  iapply (wp_recv_item A K c 0 0 0 6 (by decide) (by decide) (recvS_eq 0 _) rfl) $$ [HO J0]
  · isplitr; · iexact HR
    isplitl [HO]; · iexact HO
    iexact J0
  iintro ⟨HO, J0, S1⟩
  iapply (wp_recv_item A K c 1 0 1 6 (by decide) (by decide) (recvS_eq 1 _) rfl) $$ [HO J1]
  · isplitr; · iexact HR
    isplitl [HO]; · iexact HO
    iexact J1
  iintro ⟨HO, J1, S2⟩
  iapply (wp_recv_item A K c 2 0 2 6 (by decide) (by decide) (recvS_eq 2 _) rfl) $$ [HO J2]
  · isplitr; · iexact HR
    isplitl [HO]; · iexact HO
    iexact J2
  iintro ⟨HO, J2, S3⟩
  iapply (wp_load_slot c (a := 1)) $$ S1; iintro S1
  iapply (wp_load_slot c (a := 2)) $$ S2; iintro S2
  iapply (wp_load_slot c (a := 3)) $$ S3; iintro S3
  iapply (wp_load 𝒱₀ (c : Thread nD τ) none Set.univ (m := Memref.whole cc0_stg2_0) (Finset.subset_univ _)) $$ H2; iintro H2
  rw [read_stg2]
  iapply (wp_load 𝒱₀ (c : Thread nD τ) none Set.univ (m := Memref.whole cc0_stg3_0) (Finset.subset_univ _)) $$ H3; iintro H3
  rw [read_stg3]
  -- the second layer
  iapply (wp_load_any c (a := 4)) $$ S4; iintro %_ S4
  iapply (wp_store_slot c (a := 4)) $$ S4; iintro S4
  rw [stored1]
  icases (lend_split c 4 _).1 $$ S4 with ⟨L10, L11, L12⟩
  iapply (wp_copy_item A K c 3 1 0 5 (by decide) (by decide) _ (dev7_eq c) (sendS_eq 3 _) (recvS_eq 3 _) rfl rfl) $$ [HO J3 L10 P5]
  · isplitr; · iexact HR
    isplitl [HO]; · iexact HO
    isplitl [J3]; · iexact J3
    isplitl [L10]; · iexact L10
    iexact P5
  iintro ⟨HO, J3⟩
  iapply (wp_copy_item A K c 4 1 1 4 (by decide) (by decide) _ (dev8_eq c) (sendS_eq 4 _) (recvS_eq 4 _) rfl rfl) $$ [HO J4 L11 P6]
  · isplitr; · iexact HR
    isplitl [HO]; · iexact HO
    isplitl [J4]; · iexact J4
    isplitl [L11]; · iexact L11
    iexact P6
  iintro ⟨HO, J4⟩
  iapply (wp_copy_item A K c 5 1 2 3 (by decide) (by decide) _ (dev9_eq c) (sendS_eq 5 _) (recvS_eq 5 _) rfl rfl) $$ [HO J5 L12 P7]
  · isplitr; · iexact HR
    isplitl [HO]; · iexact HO
    isplitl [J5]; · iexact J5
    isplitl [L12]; · iexact L12
    iexact P7
  iintro ⟨HO, J5⟩
  iapply (wp_recv_item A K c 3 1 0 3 (by decide) (by decide) (recvS_eq 3 _) rfl) $$ [HO J3]
  · isplitr; · iexact HR
    isplitl [HO]; · iexact HO
    iexact J3
  iintro ⟨HO, J3, S5⟩
  iapply (wp_recv_item A K c 4 1 1 3 (by decide) (by decide) (recvS_eq 4 _) rfl) $$ [HO J4]
  · isplitr; · iexact HR
    isplitl [HO]; · iexact HO
    iexact J4
  iintro ⟨HO, J4, S6⟩
  iapply (wp_recv_item A K c 5 1 2 3 (by decide) (by decide) (recvS_eq 5 _) rfl) $$ [HO J5]
  · isplitr; · iexact HR
    isplitl [HO]; · iexact HO
    iexact J5
  iintro ⟨HO, J5, S7⟩
  iapply (wp_load_slot c (a := 5)) $$ S5; iintro S5
  iapply (wp_load_slot c (a := 6)) $$ S6; iintro S6
  iapply (wp_load_slot c (a := 7)) $$ S7; iintro S7
  iapply (wp_load 𝒱₀ (c : Thread nD τ) none Set.univ (m := Memref.whole cc0_stg4_0) (Finset.subset_univ _)) $$ H4; iintro H4
  rw [read_stg4]
  iapply (wp_load 𝒱₀ (c : Thread nD τ) none Set.univ (m := Memref.whole cc0_stg5_0) (Finset.subset_univ _)) $$ H5; iintro H5
  rw [read_stg5]
  -- the third layer
  iapply (wp_load_any c (a := 8)) $$ S8; iintro %_ S8
  iapply (wp_store_slot c (a := 8)) $$ S8; iintro S8
  rw [stored2]
  icases (lend_split c 8 _).1 $$ S8 with ⟨L20, L21, L22⟩
  iapply (wp_copy_item A K c 6 2 0 2 (by decide) (by decide) _ (dev10_eq c) (sendS_eq 6 _) (recvS_eq 6 _) rfl rfl) $$ [HO J6 L20 P9]
  · isplitr; · iexact HR
    isplitl [HO]; · iexact HO
    isplitl [J6]; · iexact J6
    isplitl [L20]; · iexact L20
    iexact P9
  iintro ⟨HO, J6⟩
  iapply (wp_copy_item A K c 7 2 1 1 (by decide) (by decide) _ (dev11_eq c) (sendS_eq 7 _) (recvS_eq 7 _) rfl rfl) $$ [HO J7 L21 P10]
  · isplitr; · iexact HR
    isplitl [HO]; · iexact HO
    isplitl [J7]; · iexact J7
    isplitl [L21]; · iexact L21
    iexact P10
  iintro ⟨HO, J7⟩
  iapply (wp_copy_item A K c 8 2 2 0 (by decide) (by decide) _ (dev12_eq c) (sendS_eq 8 _) (recvS_eq 8 _) rfl rfl) $$ [HO J8 L22 P11]
  · isplitr; · iexact HR
    isplitl [HO]; · iexact HO
    isplitl [J8]; · iexact J8
    isplitl [L22]; · iexact L22
    iexact P11
  iintro ⟨HO, J8⟩
  iapply (wp_recv_item A K c 6 2 0 0 (by decide) (by decide) (recvS_eq 6 _) rfl) $$ [HO J6]
  · isplitr; · iexact HR
    isplitl [HO]; · iexact HO
    iexact J6
  iintro ⟨HO, J6, S9⟩
  iapply (wp_recv_item A K c 7 2 1 0 (by decide) (by decide) (recvS_eq 7 _) rfl) $$ [HO J7]
  · isplitr; · iexact HR
    isplitl [HO]; · iexact HO
    iexact J7
  iintro ⟨HO, J7, S10⟩
  iapply (wp_recv_item A K c 8 2 2 0 (by decide) (by decide) (recvS_eq 8 _) rfl) $$ [HO J8]
  · isplitr; · iexact HR
    isplitl [HO]; · iexact HO
    iexact J8
  iintro ⟨HO, J8, S11⟩
  iapply (wp_load_slot c (a := 9)) $$ S9; iintro S9
  iapply (wp_load_slot c (a := 10)) $$ S10; iintro S10
  iapply (wp_load_slot c (a := 11)) $$ S11; iintro S11
  iapply (wp_load 𝒱₀ (c : Thread nD τ) none Set.univ (m := Memref.whole cc0_stg6_0) (Finset.subset_univ _)) $$ H6; iintro H6
  rw [read_stg6]
  iapply (wp_load 𝒱₀ (c : Thread nD τ) none Set.univ (m := Memref.whole cc0_stg7_0) (Finset.subset_univ _)) $$ H7; iintro H7
  iapply (wp_store 𝒱₀ (c : Thread nD τ) none Set.univ (m := Memref.whole cc0_stg7_0)
    (r := Rect.unit (s := S256x256) ![0, 0] S256x256.size inb_S256x256_S256x256_0_0) (Mk := Finset.univ) (Finset.subset_univ _)) $$ H7; iintro H7
  rw [write_stg7, stored3]
  -- every send has completed before the program ends
  iapply (wp_done_item A K c 0 0 0 (by decide) (sendS_eq 0 _) rfl) $$ [HO J0]
  · isplitr; · iexact HR
    isplitl [HO]; · iexact HO
    iexact J0
  iintro ⟨HO, J0, L00⟩
  iapply (wp_done_item A K c 1 0 1 (by decide) (sendS_eq 1 _) rfl) $$ [HO J1]
  · isplitr; · iexact HR
    isplitl [HO]; · iexact HO
    iexact J1
  iintro ⟨HO, J1, L01⟩
  iapply (wp_done_item A K c 2 0 2 (by decide) (sendS_eq 2 _) rfl) $$ [HO J2]
  · isplitr; · iexact HR
    isplitl [HO]; · iexact HO
    iexact J2
  iintro ⟨HO, J2, L02⟩
  iapply (wp_done_item A K c 3 1 0 (by decide) (sendS_eq 3 _) rfl) $$ [HO J3]
  · isplitr; · iexact HR
    isplitl [HO]; · iexact HO
    iexact J3
  iintro ⟨HO, J3, L10⟩
  iapply (wp_done_item A K c 4 1 1 (by decide) (sendS_eq 4 _) rfl) $$ [HO J4]
  · isplitr; · iexact HR
    isplitl [HO]; · iexact HO
    iexact J4
  iintro ⟨HO, J4, L11⟩
  iapply (wp_done_item A K c 5 1 2 (by decide) (sendS_eq 5 _) rfl) $$ [HO J5]
  · isplitr; · iexact HR
    isplitl [HO]; · iexact HO
    iexact J5
  iintro ⟨HO, J5, L12⟩
  iapply (wp_done_item A K c 6 2 0 (by decide) (sendS_eq 6 _) rfl) $$ [HO J6]
  · isplitr; · iexact HR
    isplitl [HO]; · iexact HO
    iexact J6
  iintro ⟨HO, J6, L20⟩
  iapply (wp_done_item A K c 7 2 1 (by decide) (sendS_eq 7 _) rfl) $$ [HO J7]
  · isplitr; · iexact HR
    isplitl [HO]; · iexact HO
    iexact J7
  iintro ⟨HO, J7, L21⟩
  iapply (wp_done_item A K c 8 2 2 (by decide) (sendS_eq 8 _) rfl) $$ [HO J8]
  · isplitr; · iexact HR
    isplitl [HO]; · iexact HO
    iexact J8
  iintro ⟨HO, J8, L22⟩
  rw [wp_ret]; imodintro
  iapply Hk
  unfold bodyPost closed inputs
  rw [bigSep_nine]
  isplitl [HzB J0 J1 J2 J3 J4 J5 J6 J7 J8]
  · isplitl [HzB]; · iexact HzB
    isplitl [J0]; · iexact J0
    isplitl [J1]; · iexact J1
    isplitl [J2]; · iexact J2
    isplitl [J3]; · iexact J3
    isplitl [J4]; · iexact J4
    isplitl [J5]; · iexact J5
    isplitl [J6]; · iexact J6
    isplitl [J7]; · iexact J7
    iexact J8
  isplitl [S1 S2 S3 S5 S6 S7 S9 S10 S11 L00 L01 L02 L10 L11 L12 L20 L21 L22]
  · iapply (slots_close c (spread (up (part A 0 c))))
    unfold slots
    isplitl [L00 L01 L02]
    · iapply (slot_back c 0)
      isplitl [L00]; · iexact L00
      isplitl [L01]; · iexact L01
      iexact L02
    isplitl [S1]; · iapply (slotAt_any c 1); iexact S1
    isplitl [S2]; · iapply (slotAt_any c 2); iexact S2
    isplitl [S3]; · iapply (slotAt_any c 3); iexact S3
    isplitl [L10 L11 L12]
    · iapply (slot_back c 4)
      isplitl [L10]; · iexact L10
      isplitl [L11]; · iexact L11
      iexact L12
    isplitl [S5]; · iapply (slotAt_any c 5); iexact S5
    isplitl [S6]; · iapply (slotAt_any c 6); iexact S6
    isplitl [S7]; · iapply (slotAt_any c 7); iexact S7
    isplitl [L20 L21 L22]
    · iapply (slot_back c 8)
      isplitl [L20]; · iexact L20
      isplitl [L21]; · iexact L21
      iexact L22
    isplitl [S9]; · iapply (slotAt_any c 9); iexact S9
    isplitl [S10]; · iapply (slotAt_any c 10); iexact S10
    iapply (slotAt_any c 11); iexact S11
  isplitl [HO]; · iexact HO
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact H7

end Cert.MlpRun

end
-- ==== Proof.Deal.lean ====
/- How the launch deals the exchange out: the cells' invariants are made, every duty goes to the device that pays it, and
   each device is credited with what the others owe its cells. -/
module

public import proofs.«01_k».proof.Proof.Body
public import proofs.«01_k».proof.Proof.Gen.KernelIdeal.Launch

@[expose] public section

set_option maxRecDepth 16384

noncomputable section

namespace Cert.MlpRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the cells -/

theorem kS_injective : Function.Injective kS := by decide
theorem kR_injective : Function.Injective kR := by decide

/-- A family over a device's cells is its barrier's member, its sends' and its receives'. -/
theorem bigSep_cells (Φ : Fin 19 → sProp 𝕄) :
    bigSep Finset.univ Φ = iprop(Φ 0 ∗ (bigSep Finset.univ fun j => Φ (kS j)) ∗ bigSep Finset.univ fun j => Φ (kR j)) := by
  rw [show (Finset.univ : Finset (Fin 19)) = {0} ∪ (Finset.univ.map ⟨kS, kS_injective⟩ ∪ Finset.univ.map ⟨kR, kR_injective⟩) by decide,
    bigSep_union (by decide), bigSep_union (by decide), bigSep_singleton, bigSep_map, bigSep_map]
  rfl

/-- Two families may be taken in either order. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]
  rfl

theorem kcell_injective : Function.Injective (kcell : Dev nD × Fin 19 → GSem nD τ sig) := by
  rintro ⟨c, k⟩ ⟨c', k'⟩ h
  have h1 : c = c' := congrArg (fun g : GSem nD τ sig => g.1.1) h
  have h2 : csem k = csem k' := congrArg Prod.snd h
  have h3 : ∀ k k' : Fin 19, csem k = csem k' → k = k' := by decide
  rw [h1, h3 k k' h2]

def exCells : Finset (GSem nD τ sig) := Finset.univ.map ⟨kcell, kcell_injective⟩

/-- The duties minted: the three directions' at every cell; a send or a receive uses only the first. -/
abbrev tokOf (x : (Dev nD × Fin 19) × Fin 3) : GSem nD τ sig × ℕ × Fin 3 := (kcell x.1, 0, x.2)
theorem tokOf_injective : Function.Injective tokOf := by
  rintro ⟨a, d⟩ ⟨b, e⟩ h
  obtain rfl : d = e := congrArg (fun x : GSem nD τ sig × ℕ × Fin 3 => x.2.2) h
  obtain rfl : a = b := kcell_injective (congrArg Prod.fst h)
  rfl
def exToks : Finset (GSem nD τ sig × ℕ × Fin 3) := Finset.univ.map ⟨tokOf, tokOf_injective⟩

/-- The launch's ghost state: the windows' cells and the exchange's. -/
def u₀ : UU :=
  (initOf (Pipeline.cells cfgs cellOf_inj) (Pipeline.launchToks cfgs cellOf_inj), initOf exCells exToks)

/-! ## The deal -/

variable (A : Dev nD → Args F)

/-- The duties of device `c`'s own cells. -/
def ownToks (c : Dev nD) : sProp 𝕄 :=
  iprop((bigSep Finset.univ fun d : Fin 3 => dutyTok EX (barCell c) 0 d)
    ∗ (bigSep Finset.univ fun j : Fin 9 => dutyTok EX (sendCell c j) 0 0) ∗ bigSep Finset.univ fun j : Fin 9 => dutyTok EX (recvCell c j) 0 0)

/-- The duties device `c` pays. -/
def payToks (c : Dev nD) : sProp 𝕄 :=
  iprop((bigSep Finset.univ fun d : Fin 3 => dutyTok EX (barCell (peer d c)) 0 d)
    ∗ (bigSep Finset.univ fun j : Fin 9 => dutyTok EX (sendCell c j) 0 0)
    ∗ bigSep Finset.univ fun j : Fin 9 => dutyTok EX (recvCell (peer (dir j.val) c) j) 0 0)

/-- Every duty goes from the cell it is of to the device that pays it. -/
theorem toks_dealt : (bigSep Finset.univ fun c : Dev nD => (ownToks c : sProp 𝕄)) = bigSep Finset.univ fun c : Dev nD => payToks c := by
  unfold ownToks payToks
  rw [bigSep_sep', bigSep_sep', bigSep_sep', bigSep_sep',
    bigSep_swap (fun (c : Dev nD) (d : Fin 3) => (dutyTok EX (barCell c) 0 d : sProp 𝕄)),
    bigSep_swap (fun (c : Dev nD) (d : Fin 3) => (dutyTok EX (barCell (peer d c)) 0 d : sProp 𝕄)),
    bigSep_swap (fun (c : Dev nD) (j : Fin 9) => (dutyTok EX (recvCell c j) 0 0 : sProp 𝕄)),
    bigSep_swap (fun (c : Dev nD) (j : Fin 9) => (dutyTok EX (recvCell (peer (dir j.val) c) j) 0 0 : sProp 𝕄)),
    bigSep_congr (s := Finset.univ) fun (d : Fin 3) _ => bigSep_univ_equiv (pairing d) (fun c : Dev nD => (dutyTok EX (barCell c) 0 d : sProp 𝕄)),
    bigSep_congr (s := Finset.univ) fun (j : Fin 9) _ => bigSep_univ_equiv (pairing (dir j.val)) (fun c : Dev nD => (dutyTok EX (recvCell c j) 0 0 : sProp 𝕄))]
  rfl

/-- What the launch deals device `c`. -/
def G (c : Dev nD) : sProp 𝕄 :=
  iprop((bigSep Finset.univ fun k : Fin 19 => roundState EX (rd A) (kcell (c, k)) 0)
    ∗ (bigSep Finset.univ fun k : Fin 19 => iprop(atPos EX (kcell (c, k)) 0 ∅ 0 ∗ reached EX (kcell (c, k)) 0)) ∗ ownToks c)

theorem toks_of (c : Dev nD) :
    (bigSep Finset.univ fun k : Fin 19 => bigSep Finset.univ fun d : Fin 3 => (dutyTok EX (kcell (c, k)) 0 d : sProp 𝕄)) ⊢ ownToks c := by
  unfold ownToks
  rw [bigSep_cells]
  refine sep_mono_right ?_
  refine Laws.sep_mono ?_ ?_
  · refine bigSep_mono fun j _ => ?_
    rw [kcell_send]; exact bigSep_elim (Φ := fun d : Fin 3 => (dutyTok EX (sendCell c j) 0 d : sProp 𝕄)) (Finset.mem_univ 0)
  · refine bigSep_mono fun j _ => ?_
    rw [kcell_recv]; exact bigSep_elim (Φ := fun d : Fin 3 => (dutyTok EX (recvCell c j) 0 d : sProp 𝕄)) (Finset.mem_univ 0)

theorem fund_exchange : BI.own (EX (initOf exCells exToks)) ⊢ (|==> bigSep Finset.univ (G A) : sProp 𝕄) := by
  have hX (Φ : GSem nD τ sig → sProp 𝕄) : bigSep exCells Φ = bigSep Finset.univ fun c : Dev nD => bigSep Finset.univ fun k : Fin 19 => Φ (kcell (c, k)) := by
    unfold exCells; rw [bigSep_map, bigSep_univ_prod]; rfl
  have hT : bigSep exToks (fun x => (dutyTok EX x.1 x.2.1 x.2.2 : sProp 𝕄)) ⊢ bigSep Finset.univ fun c : Dev nD => ownToks c := by
    unfold exToks; rw [bigSep_map, bigSep_univ_prod, bigSep_univ_prod]
    exact bigSep_mono fun c _ => toks_of c
  iintro HX
  imod (Rounds.fund EX (rd A) exCells exToks) $$ HX with ⟨Hst, Hr, Hat, Htok⟩
  imodintro
  ihave Hst' := (Entails.of_eq (hX fun g => roundState EX (rd A) g 0)) $$ Hst
  ihave Hat' := (Entails.of_eq (hX fun g => atPos EX g 0 ∅ 0)) $$ Hat
  ihave Hr' := (Entails.of_eq (hX fun g => reached EX g 0)) $$ Hr
  ihave Htok' := hT $$ Htok
  unfold G; simp only [bigSep_sep']
  isplitl [Hst']; · iexact Hst'
  isplitl [Hat' Hr']
  · isplitl [Hat'] <;> iassumption
  iexact Htok'

/-- The kernel's own semaphores: the sends' and the receives'. -/
abbrev osem : Fin 18 → SemLoc sig := fun k => .dma (⟨8 + k.val, by have := k.isLt; omega⟩ : Fin 26)

theorem ownSemFacts : Pipeline.OwnSemFacts cfg0.spec osem := by decide

/-- The kernel's own semaphores at zero, sends and receives apart. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 9 => semVal (sendCell c j) 0) ∗ bigSep Finset.univ fun j : Fin 9 => semVal (recvCell c j) 0) := by
  unfold Pipeline.ownSems0
  rw [show (Finset.univ : Finset (Fin 18)) = Finset.univ.map ⟨fun j : Fin 9 => (⟨j.val, by have := j.isLt; omega⟩ : Fin 18), by decide⟩
      ∪ Finset.univ.map ⟨fun j : Fin 9 => (⟨9 + j.val, by have := j.isLt; omega⟩ : Fin 18), by decide⟩ by decide,
    bigSep_union (by decide), bigSep_map, bigSep_map]
  have e : ∀ j : Fin 9, osem (⟨9 + j.val, by have := j.isLt; omega⟩ : Fin 18) = .dma (recvS j) := by decide
  refine congrArg₂ _ rfl (bigSep_congr fun j _ => ?_)
  show (semVal ((c : Thread nD τ), osem (⟨9 + j.val, _⟩ : Fin 18)) 0 : sProp 𝕄) = _
  rw [e j]
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_cells]
  simp only [kcell_send, kcell_recv]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv EX (rd A) κ (kcell (c, k))))
          ∗ (bigSep Finset.univ fun k => iprop(atPos EX (kcell (c, k)) 0 ∅ 0 ∗ reached EX (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState EX (rd A) (kcell (c, k)) 0)
      ⊢ (|={Set.univ}=> bigSep Finset.univ fun k => iprop(∃ κ : ℕ, cellInv EX (rd A) κ (kcell (c, k))) : sProp 𝕄) from by
        rw [← bigSep_sep']
        exact (bigSep_mono fun k _ => (Rounds.body_intro EX (rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and marks of all cells. -/
def marks (K : Dev nD × Fin 19 → ℕ) : sProp 𝕄 :=
  iprop((bigSep Finset.univ fun ck : Dev nD × Fin 19 => cellInv EX (rd A) (K ck) (kcell ck))
    ∗ bigSep Finset.univ fun ck : Dev nD × Fin 19 => reached EX (kcell ck) 0)
instance marks_persistent (K : Dev nD × Fin 19 → ℕ) : BI.Persistent (marks A K) := by unfold marks; infer_instance

/-- What the deal leaves device `c`: the marks, its cells' positions and the duties it pays. -/
def G' (c : Dev nD) : sProp 𝕄 :=
  iprop(∃ K, marks A K ∗ (bigSep Finset.univ fun k : Fin 19 => atPos EX (kcell (c, k)) 0 ∅ 0) ∗ payToks c)

/-- A persistent fact goes to every member of a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (rd A) κ (kcell (c, k))))
          ∗ (bigSep Finset.univ fun k => iprop(atPos EX (kcell (c, k)) 0 ∅ 0 ∗ reached EX (kcell (c, k)) 0)) ∗ ownToks c) : sProp 𝕄)
      ⊢ bigSep Finset.univ (G' A) := by
  rw [bigSep_sep', bigSep_sep', toks_dealt, ← bigSep_univ_prod (fun ck : Dev nD × Fin 19 => iprop(∃ κ : ℕ, cellInv EX (rd A) κ (kcell ck))),
    bigSep_congr (s := Finset.univ) (fun (c : Dev nD) _ => bigSep_sep' Finset.univ (fun k : Fin 19 => (atPos EX (kcell (c, k)) 0 ∅ 0 : sProp 𝕄)) (fun k => reached EX (kcell (c, k)) 0)),
    bigSep_sep', ← bigSep_univ_prod (fun ck : Dev nD × Fin 19 => (reached EX (kcell ck) 0 : sProp 𝕄))]
  iintro ⟨HI, ⟨Hat, #HR⟩, Htok⟩
  ihave HK := (BI.bigSep_exists_pi Finset.univ (fun (ck : Dev nD × Fin 19) (κ : ℕ) => (cellInv EX (rd A) κ (kcell ck) : sProp 𝕄))) $$ HI
  icases HK with ⟨%K, #HI⟩
  iapply (bigSep_share (R := marks A K)
    (Φ := fun c : Dev nD => iprop((bigSep Finset.univ fun k : Fin 19 => (atPos EX (kcell (c, k)) 0 ∅ 0 : sProp 𝕄)) ∗ payToks c))
    fun c _ => show _ ⊢ G' A c from by unfold G'; iintro H; iexists K; iexact H)
  isplitr
  · unfold marks; isplitl; · iexact HI
    iexact HR
  · rw [bigSep_sep']
    isplitl [Hat]; · iexact Hat
    iexact Htok

/-- The deal, over all devices at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The launch credit -/

theorem bar_eq_iff {a b : Dev nD} : barCell a = barCell b ↔ a = b :=
  ⟨fun h => congrArg (fun g : GSem nD τ sig => g.1.1) h, fun h => h ▸ rfl⟩
theorem recvS_injective : Function.Injective recvS := by decide
theorem recv_eq_iff {a b : Dev nD} {i j : Fin 9} : recvCell a i = recvCell b j ↔ a = b ∧ i = j :=
  ⟨fun h => ⟨congrArg (fun g : GSem nD τ sig => g.1.1) h, recvS_injective (SemLoc.dma.inj (congrArg Prod.snd h))⟩, fun ⟨h, h'⟩ => by rw [h, h']⟩
theorem recv_ne_bar (a b : Dev nD) (j : Fin 9) : recvCell a j ≠ barCell b := fun h => by
  have := congrArg Prod.snd h
  cases this

/-- No copy owed is owed a barrier. -/
theorem owF_bar (d c : Dev nD) (n : ℕ) : owF d n (barCell c) () = 0 := by
  rcases Nat.eq_zero_or_pos (owF d n (barCell c) ()) with h | h
  · exact h
  · obtain ⟨j, -, e⟩ := owF_pos h
    exact absurd e.symm (recv_ne_bar _ _ _)

theorem tally_bar (d : Fin 3) (e c : Dev nD) : (tallyAt (barCell (peer d e)) () 1 : CellTallies nD τ sig Unit) (barCell c) () = if e = peer d c then 1 else 0 := by
  rw [tallyAt_apply]
  refine if_congr ?_ rfl rfl
  rw [bar_eq_iff, eq_comm, peer_eq_iff]
  exact ⟨fun h => h.1, fun h => ⟨h, rfl⟩⟩

/-- A device owes each peer's barrier one unit. -/
theorem owed_bar (d c : Dev nD) :
    O₀ d (barCell c) () = (if d = peer 0 c then 1 else 0) + (if d = peer 2 c then 1 else 0) + (if d = peer 1 c then 1 else 0) := by
  unfold O₀
  simp only [Pi.add_apply, Finsupp.add_apply]
  rw [owF_bar, tally_bar, tally_bar, tally_bar, Nat.zero_add]

/-- The copies still to be sent to a receive cell. -/
theorem owF_recv (d c : Dev nD) (j : Fin 9) : ∀ n, n ≤ 9 → owF d n (recvCell c j) () = if 9 ≤ n + j.val ∧ d = peer (dir j.val) c then N else 0
  | 0, _ => by
    rw [if_neg fun h => by have := j.isLt; omega]; rfl
  | n + 1, hn => by
    rw [owF, Pi.add_apply, Finsupp.add_apply, owF_recv d c j n (by omega), tallyAt_apply]
    by_cases hj : j.val = 8 - n
    · have e : (⟨8 - n, by omega⟩ : Fin 9) = j := Fin.ext hj.symm
      rw [if_neg fun h => by omega, Nat.zero_add, e, ← hj]
      refine if_congr ?_ rfl rfl
      rw [recv_eq_iff, eq_comm, peer_eq_iff]
      exact ⟨fun h => ⟨by omega, h.1.1⟩, fun h => ⟨⟨h.2, rfl⟩, rfl⟩⟩
    · rw [if_neg (c := recvCell c j = _ ∧ () = ()) fun h => hj (congrArg Fin.val (recv_eq_iff.mp h.1).2), Nat.add_zero]
      refine if_congr ?_ rfl rfl
      exact ⟨fun h => ⟨by omega, h.2⟩, fun h => ⟨by omega, h.2⟩⟩

/-- A device owes a receive cell one copy if it is the peer the copy comes from. -/
theorem owed_recv (d c : Dev nD) (j : Fin 9) : O₀ d (recvCell c j) () = if d = peer (dir j.val) c then N else 0 := by
  unfold O₀
  simp only [Pi.add_apply, Finsupp.add_apply]
  rw [tallyAt_ne_cell (recv_ne_bar _ _ _), tallyAt_ne_cell (recv_ne_bar _ _ _), tallyAt_ne_cell (recv_ne_bar _ _ _), owF_recv d c j 9 (le_refl 9)]
  simp only [Finsupp.zero_apply, Nat.add_zero]
  refine if_congr ⟨fun h => h.2, fun h => ⟨by omega, h⟩⟩ rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 0 c) fun _ => 1, Finset.sum_ite_eq' Finset.univ (peer 2 c) fun _ => 1, Finset.sum_ite_eq' Finset.univ (peer 1 c) fun _ => 1,
    if_pos (Finset.mem_univ _), if_pos (Finset.mem_univ _), if_pos (Finset.mem_univ _)]

theorem launch_recv (c : Dev nD) (j : Fin 9) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer (dir j.val) c) fun _ => N, if_pos (Finset.mem_univ _)]

/-- The credit a device starts with. -/
theorem creds (c : Dev nD) :
    (Pipeline.launchCred O₀ c : sProp 𝕄) ⊢ iprop(cred (tallyAt (barCell c) () 3) ∗ bigSep Finset.univ fun j : Fin 9 => cred (tallyAt (recvCell c j) () N)) := by
  unfold Pipeline.launchCred
  rw [bigSep_univ_at _ (SemLoc.reg barS), launch_bar]
  refine sep_mono_right ?_
  refine (bigSep_subset (s := Finset.univ.erase (SemLoc.reg barS))
    (t := Finset.univ.map ⟨fun j : Fin 9 => (SemLoc.dma (recvS j) : SemLoc sig), fun i j h => recvS_injective (SemLoc.dma.inj h)⟩) (fun x hx => by
      obtain ⟨j, -, rfl⟩ := Finset.mem_map.mp hx
      exact Finset.mem_erase.mpr ⟨(fun h => by cases h), Finset.mem_univ _⟩)).trans ?_
  rw [bigSep_map]
  refine bigSep_mono fun j _ => ?_
  rw [← launch_recv]
  exact BI.Entails.refl _

end Cert.MlpRun

end
-- ==== Proof.Run.lean ====
/- The run of the whole mesh: from any memory, every execution ends with each device's result array at its block of the
   result and everything else it was given unchanged. -/
module

public import proofs.«01_k».proof.Proof.Deal
public import proofs.«01_k».proof.Proof.Gen.KernelIdeal.Frame
public import Idealize.ShloMosaic.Lib.Pipeline.CollectiveSegs
public import Idealize.ShloMosaic.Adequacy
public import Idealize.ShloMosaic.Init

@[expose] public section

set_option maxRecDepth 16384

noncomputable section

namespace Cert.MlpRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The blocks each device is handed, read from memory. -/
def args (c : Dev nD) : Args F where
  x := ((cfg0.win 0).blk t0_0).view.read (Elt F) (m ((c : Thread nD τ).loc main_arg0))
  win0 := ((cfg0.win 1).blk t0_0).view.read (Elt F) (m ((c : Thread nD τ).loc main_arg1))
  wout0 := ((cfg0.win 2).blk t0_0).view.read (Elt F) (m ((c : Thread nD τ).loc main_arg2))
  win1 := ((cfg0.win 3).blk t0_0).view.read (Elt F) (m ((c : Thread nD τ).loc main_arg3))
  wout1 := ((cfg0.win 4).blk t0_0).view.read (Elt F) (m ((c : Thread nD τ).loc main_arg4))
  win2 := ((cfg0.win 5).blk t0_0).view.read (Elt F) (m ((c : Thread nD τ).loc main_arg5))
  wout2 := ((cfg0.win 6).blk t0_0).view.read (Elt F) (m ((c : Thread nD τ).loc main_arg6))

/-- The pipeline's account of the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m c).x
    | ⟨1, _⟩ => (args m c).win0
    | ⟨2, _⟩ => (args m c).wout0
    | ⟨3, _⟩ => (args m c).win1
    | ⟨4, _⟩ => (args m c).wout1
    | ⟨5, _⟩ => (args m c).win2
    | ⟨6, _⟩ => (args m c).wout2
    | ⟨7, _⟩ => result (args m) c
  Φ t := match t with
    | ⟨0, _⟩ => iprop(exch (args m) c ∗ scratch c)
    | ⟨_ + 1, _⟩ => iprop(closed c ∗ scratch c)
  q _ := fullShare
  owed t := match t with
    | ⟨0, _⟩ => O₀ c
    | ⟨_ + 1, _⟩ => 0

/-- A staging buffer held outright, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body is given at the point. -/
def pointPre (c : Dev nD) : sProp 𝕄 :=
  iprop((exch (args m) c ∗ scratch c) ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

/-- What it leaves. -/
def pointPost (c : Dev nD) : sProp 𝕄 :=
  iprop((closed c ∗ scratch c) ∗ (dats m ρ 0 c).owesAt () t0_0.succ
    ∗ stg c cc0_stg0_0 (args m c).x ∗ stg c cc0_stg1_0 (args m c).win0 ∗ stg c cc0_stg2_0 (args m c).wout0 ∗ stg c cc0_stg3_0 (args m c).win1
    ∗ stg c cc0_stg4_0 (args m c).wout1 ∗ stg c cc0_stg5_0 (args m c).win2 ∗ stg c cc0_stg6_0 (args m c).wout2
    ∗ stg c cc0_stg7_0 (result (args m) c))

/-- An input window's staging buffer holds the device's block. -/
theorem before_in (c : Dev nD) (w : Fin cfg0.W) (h : (cfg0.win w).fetch t0_0 = true) (d) :
    (dats m ρ 0 c).before w t0_0 d = (dats m ρ 0 c).fetched w t0_0 d := by unfold Dat.before; rw [if_pos h]

theorem stg_intro (c : Dev nD) (b : Ref sig .tc) (X : b.ty.Contents (Elt F)) :
    ((((c : Thread nD τ).loc b) ↦{fullShare} X) : sProp 𝕄) ⊢ stg c b X := by
  iintro H; iexists X; isplitr; · ipureintro; rfl
  iexact H

/-- The pipeline's obligation for the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pointPre m ρ c ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (Memref.whole cc0_scratch0) (Memref.isWhole_whole _)
            cc0_scratch1 cc0_scratch2) (fun _ => pointPost m ρ c)
  unfold pointPre
  iintro ⟨⟨He, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩,
    ⟨%d6, %g6, %h6, H6⟩, ⟨%d7, %g7, %h7, H7⟩⟩
  have e0 : g0 = (args m c).x := by rw [h0]; unfold Dat.before; rw [if_pos (fetch0_0 t0_0)]; rfl
  have e1 : g1 = (args m c).win0 := by rw [h1]; unfold Dat.before; rw [if_pos (fetch0_1 t0_0)]; rfl
  have e2 : g2 = (args m c).wout0 := by rw [h2]; unfold Dat.before; rw [if_pos (fetch0_2 t0_0)]; rfl
  have e3 : g3 = (args m c).win1 := by rw [h3]; unfold Dat.before; rw [if_pos (fetch0_3 t0_0)]; rfl
  have e4 : g4 = (args m c).wout1 := by rw [h4]; unfold Dat.before; rw [if_pos (fetch0_4 t0_0)]; rfl
  have e5 : g5 = (args m c).win2 := by rw [h5]; unfold Dat.before; rw [if_pos (fetch0_5 t0_0)]; rfl
  have e6 : g6 = (args m c).wout2 := by rw [h6]; unfold Dat.before; rw [if_pos (fetch0_6 t0_0)]; rfl
  subst e0 e1 e2 e3 e4 e5 e6
  unfold Dat.owesAt Pipeline.owesWithin
  icases Ho with ⟨%W, %hW, HO⟩
  rw [show (dats m ρ 0 c).owed t0_0.castSucc = O₀ c from rfl]
  iapply (sound_body (args m) c g7 fun _ => pointPost m ρ c)
  unfold bodyPre debt inputs
  isplitl
  · isplitl [He]; · iexact He
    isplitl [Hs]; · iexact Hs
    isplitl [HO]; · iexists W; iexact HO
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  unfold bodyPost pointPost Dat.owesAt Pipeline.owesWithin debt inputs
  rw [show (dats m ρ 0 c).owed t0_0.succ = 0 from rfl]
  iintro ⟨Hc, Hs, ⟨%W', HO⟩, ⟨H0, H1, H2, H3, H4, H5, H6⟩, H7⟩
  isplitl [Hc Hs]
  · isplitl [Hc] <;> iassumption
  isplitl [HO]
  · iexists W'
    isplitr; · ipureintro; exact fun _ _ => Or.inl trivial
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  isplitl [H5]; · iapply (stg_intro c cc0_stg5_0); iexact H5
  isplitl [H6]; · iapply (stg_intro c cc0_stg6_0); iexact H6
  iapply (stg_intro c cc0_stg7_0); iexact H7

/-! ## The launch's conditions -/

theorem share_eq (c : Dev nD) (w : Fin cfg0.W) : (dats m ρ 0 c).share w = fullShare := by unfold Dat.share; split <;> rfl

/-- The deal, the credit and the order of the waits are a device's part in the exchange. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m) c)
      ⊢ |={Set.univ}=> iprop(exch (args m) c ∗ emp) := by
  unfold G' marks exch payToks item payTok
  simp only [bigSep_sep']
  rw [bigSep_cells, bigSep_dirs]
  simp only [kcell_send, kcell_recv]
  iintro ⟨-, #Hlev, Hcr, -, ⟨%K, ⟨#HI, #HM⟩, ⟨HaB, HaS, HaR⟩, Hb, HtS, HtR⟩⟩
  ihave Hc := (creds (F := F) c) $$ Hcr
  icases Hc with ⟨HcB, HcR⟩
  imodintro
  isplitl
  · isplitr
    · iexists K
      unfold records
      isplitr; · iexact HI
      isplitr; · iexact HM
      iexact Hlev
    isplitl [HaB]; · iexact HaB
    isplitl [HcB]; · iexact HcB
    isplitl [Hb]; · iexact Hb
    isplitl [HtS HtR]
    · isplitl [HtS]; · iexact HtS
      iexact HtR
    isplitl [HcR]; · iexact HcR
    isplitl [HaR]; · iexact HaR
    iexact HaS
  · iempintro

theorem enter (c : Dev nD) :
    iprop(exch (args m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(exch (args m) c ∗ scratch c) from rfl, scopedRest0_eq]
  unfold scratch
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scratch c) from rfl, scopedRest0_eq, ownSems0_eq, unscopedSems0_eq]
  unfold closed scratch itemDone
  rw [bigSep_sep']
  iintro ⟨⟨HB, Hc⟩, Hr⟩
  isplitl [HB]; · iexact HB
  isplitl [Hc] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array after the run. -/
def finalA (c : Dev nD) (w : Fin cfg0.W) : Buf (Elt F) ((cfg0.win w).arr.view.loc (c : Thread nD τ)) := (dats m ρ 0 c).arrAt w cfg0.N

/-- Every window's array is at its final contents, on every device. -/
def Final : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the mesh ends, with every window's array at its
    final contents and every semaphore counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (args m)) (G' := G' (args m)) (u₀ := u₀)
    (hu₀ := by
      unfold u₀
      iintro Hu
      ihave H := (ownU_pair _ _) $$ Hu
      icases H with ⟨HP, HX⟩
      imod (fund_exchange (args m)) $$ HX with HG
      imodintro
      isplitl [HP] <;> iassumption)
    (hglob := glob (args m))
    (hA := fun _ _ => rfl) (hpf := fun _ k => k.elim0)
    (X := exch (args m)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.MlpRun

end
-- ==== Proof.Value.lean ====
/- What the kernel computes over the extended reals: each device ends with its block of columns of the three-layer
   product of the whole arrays. -/
module

public import proofs.«01_k».proof.Proof.Run
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.PureOps.Ideal.Laws

@[expose] public section

set_option maxRecDepth 16384

noncomputable section

namespace Cert.MlpValue

open Cert.KernelIdeal Cert.KernelIdeal.Gen Cert.MlpRun

open Idealize.ShloMosaic
open Idealize.ShloMosaic.TcCoe
open Idealize.ShloMosaic.ValueIdx
open Idealize.ShloMosaic.Pipeline (Dat)
open scoped BigOperators

/-! ## The arrays at the two ends of the run -/

section Arrays

variable {F : FTy → Type} [FloatOps F] (m : (ℓ : Loc nD τ sig) → Buf (Elt F) ℓ) (ρ : Dev nD → PrngReg)

/-- A whole-array window's block reads the array as its memref does. -/
theorem blk_whole {s : Shape} {e : EltTy} {cs : CoreSpace} (arr : Memref sig .tc .hbm s e) (o q : Bool) (st : Memref sig .tc cs s e) (sm h₁ h₂) (t : Fin grid0.N)
    (g : arr.view.ty.Contents (Elt F)) :
    ((Pipeline.Window.whole arr o q st sm h₁ h₂ : Pipeline.Window sig grid0).blk t).view.read (Elt F) g = arr.view.read (Elt F) g :=
  funext fun i => congrArg (arr.view.read (Elt F) g) (funext fun a => Fin.ext (by
    show 0 * _ + 1 * (i a).val = (i a).val
    omega))

/-- What a device is handed is what memory holds of its arguments. -/
theorem args_eq (c : Dev nD) : args m c =
    { x := m ((c : Thread nD τ).loc main_arg0), win0 := m ((c : Thread nD τ).loc main_arg1), wout0 := m ((c : Thread nD τ).loc main_arg2),
      win1 := m ((c : Thread nD τ).loc main_arg3), wout1 := m ((c : Thread nD τ).loc main_arg4), win2 := m ((c : Thread nD τ).loc main_arg5),
      wout2 := m ((c : Thread nD τ).loc main_arg6) } := by
  unfold args
  congr 1
  · exact blk_whole (Memref.whole main_arg0) false false (stage0_0 0) (sem0_0 0) (Memref.isWhole_whole _) (hstage0_0 0) t0_0 _
  · exact blk_whole (Memref.whole main_arg1) false false (stage0_1 0) (sem0_1 0) (Memref.isWhole_whole _) (hstage0_1 0) t0_0 _
  · exact blk_whole (Memref.whole main_arg2) false false (stage0_2 0) (sem0_2 0) (Memref.isWhole_whole _) (hstage0_2 0) t0_0 _
  · exact blk_whole (Memref.whole main_arg3) false false (stage0_3 0) (sem0_3 0) (Memref.isWhole_whole _) (hstage0_3 0) t0_0 _
  · exact blk_whole (Memref.whole main_arg4) false false (stage0_4 0) (sem0_4 0) (Memref.isWhole_whole _) (hstage0_4 0) t0_0 _
  · exact blk_whole (Memref.whole main_arg5) false false (stage0_5 0) (sem0_5 0) (Memref.isWhole_whole _) (hstage0_5 0) t0_0 _
  · exact blk_whole (Memref.whole main_arg6) false false (stage0_6 0) (sem0_6 0) (Memref.isWhole_whole _) (hstage0_6 0) t0_0 _

/-- Every element of the result array lies in the result window's block. -/
theorem mem_out (i : S256x256.Idx) : i ∈ (win0_7.blk t0_0).view.set :=
  Finset.mem_map.mpr ⟨i, Finset.mem_univ _, funext fun a => Fin.ext (by
    show 0 * _ + 1 * (i a).val = (i a).val
    omega)⟩

/-- After the run a device's result array holds `result`. -/
theorem finalA_out (c : Dev nD) : finalA m ρ c 7 = result (args m) c :=
  (dats m ρ 0 c).arrAt_eq_of_cover 7 (result (args m) c)
    (fun t _ => by rw [fin_N0 t]; exact (blk_whole (F := F) (Memref.whole main_v1) true false (stage0_7 0) (sem0_7 0) (Memref.isWhole_whole _) (hstage0_7 0) t0_0 _).symm)
    (fun i => ⟨t0_0, flush0_7 _, mem_out i⟩)

end Arrays

/-! ## One layer, on one device and on all -/

/-- A device's partial product: its columns of the activations by its rows of the first weights. -/
def inPart (x : FVec Ideal S256x256 .bf16) (w : FVec Ideal S256x512 .bf16) : FVec Ideal S256x512 .bf16 :=
  truncf .bf16 (matmul dot_S256x256_S256x512_S256x512_1_0_0_1_n_n none x w (constant S256x512 .f32 0x00000000#32)) bitsLt_bf16_f32

/-- A device's columns of the second product. -/
def outPart (h : FVec Ideal S256x512 .bf16) (w : FVec Ideal S512x256 .bf16) : FVec Ideal S256x256 .bf16 :=
  truncf .bf16 (matmul dot_S256x512_S512x256_S256x256_1_0_0_1_n_n none h w (constant S256x256 .f32 0x00000000#32)) bitsLt_bf16_f32

/-- The four partial products added in the kernel's order, and cut at zero. -/
def hidden (p : Dev nD → FVec Ideal S256x512 .bf16) (c : Dev nD) : FVec Ideal S256x512 .bf16 :=
  maximumf (addf (addf (p c) (p (peer 0 c))) (addf (p (peer 1 c)) (p (peer 2 c)))) (broadcast S256x512 (Scalar.ofBits .bf16 0x0000#16))

/-- The second layer's partial product, from the first's on all devices. -/
theorem part1_eq (A : Dev nD → Args Ideal) (c : Dev nD) :
    part1 A c = inPart (outPart (hidden (part0 A) c) (A c).wout0) (A c).win1 := by
  unfold part1 k0_pay4 k0_pay3 up inPart outPart hidden
  simp only [shapeCast_self, shapeCast_shapeCast]

/-- The third layer's, from the second's. -/
theorem part2_eq (A : Dev nD → Args Ideal) (c : Dev nD) :
    part2 A c = inPart (outPart (hidden (part1 A) c) (A c).wout1) (A c).win2 := by
  unfold part2 k0_pay8 k0_pay7 k0_pay6 up inPart outPart hidden
  simp only [shapeCast_self, shapeCast_shapeCast]

/-- The result, from the third's. -/
theorem result_eq (A : Dev nD → Args Ideal) (c : Dev nD) : result A c = outPart (hidden (part2 A) c) (A c).wout2 := by
  unfold result k0_pay10 up outPart hidden
  simp only [shapeCast_self, shapeCast_shapeCast]

/-- The first layer's partial product. -/
theorem part0_eq (A : Dev nD → Args Ideal) (c : Dev nD) : part0 A c = inPart (A c).x (A c).win0 := by
  unfold part0 k0_pay1 inPart
  simp only [shapeCast_self]

/-- One layer of the reference, over the whole arrays. -/
def layer (x : FVec Ideal Cert.ReferenceIdeal.S256x1024 .bf16) (win : FVec Ideal Cert.ReferenceIdeal.S1024x512 .bf16) (wout : FVec Ideal Cert.ReferenceIdeal.S512x1024 .bf16) : FVec Ideal Cert.ReferenceIdeal.S256x1024 .bf16 :=
  truncf .bf16 (Host.dotGeneral Cert.ReferenceIdeal.dot_S256x512_S512x1024_S256x1024_1_0_0_1_n_n none
    (maximumf (truncf .bf16 (Host.dotGeneral Cert.ReferenceIdeal.dot_S256x1024_S1024x512_S256x512_1_0_0_1_n_n none x win) bitsLt_bf16_f32)
      (broadcastInDim S256x512 ![] Cert.ReferenceIdeal.Gen.bcast_S_S256x512 (constant Cert.ReferenceIdeal.S_ .bf16 0x0000#16))) wout) bitsLt_bf16_f32

/-- Position `j` of block `c`, among the 1024. -/
def pos (c : Fin 4) (j : Fin 256) : Fin 1024 := ⟨c.val * 256 + j.val, by omega⟩

/-- A partial product, entry by entry. -/
theorem inPart_apply (x : FVec Ideal S256x256 .bf16) (w : FVec Ideal S256x512 .bf16) (r : Fin 256) (k : Fin 512) :
    inPart x w (ix2 r k) = ∑ j : Fin 256, x (ix2 r j) * w (ix2 j k) := by
  show FloatOps.matmul (DotDims.plain 256 256 512) none x w (constant S256x512 .f32 0x00000000#32) (ix2 r k) = _
  rw [Ideal.matmul_plain_apply, show (constant S256x512 .f32 0x00000000#32 : FVec Ideal S256x512 .f32) (ix2 r k) = 0 from Ideal.ofBits_zero_f32, zero_add]

/-- A device's columns of the second product, entry by entry. -/
theorem outPart_apply (h : FVec Ideal S256x512 .bf16) (w : FVec Ideal S512x256 .bf16) (r c : Fin 256) :
    outPart h w (ix2 r c) = ∑ k : Fin 512, h (ix2 r k) * w (ix2 k c) := by
  show FloatOps.matmul (DotDims.plain 256 512 256) none h w (constant S256x256 .f32 0x00000000#32) (ix2 r c) = _
  rw [Ideal.matmul_plain_apply, show (constant S256x256 .f32 0x00000000#32 : FVec Ideal S256x256 .f32) (ix2 r c) = 0 from Ideal.ofBits_zero_f32, zero_add]

/-- A device and its three peers are all the devices. -/
theorem sum_peers (f : Dev nD → EReal) (c : Dev nD) : (f c + f (peer 0 c)) + (f (peer 1 c) + f (peer 2 c)) = ∑ d : Dev nD, f d := by
  have h : ∀ c : Dev nD, [c, peer 0 c, peer 1 c, peer 2 c].Perm (List.finRange nD) := by decide
  rw [Fin.sum_univ_def, ← ((h c).map f).sum_eq]
  simp only [List.map_cons, List.map_nil, List.sum_cons, List.sum_nil, add_zero, add_assoc]

/-- A sum over 1024 positions is the sum over the four blocks of the sums over each. -/
theorem sum_blocks (f : Fin 1024 → EReal) : ∑ k, f k = ∑ c : Fin 4, ∑ j : Fin 256, f (pos c j) := by
  rw [← Fintype.sum_prod_type', ← (finProdFinEquiv (m := 4) (n := 256)).sum_comp f]
  refine Finset.sum_congr rfl fun q _ => congrArg f (Fin.ext ?_)
  show q.2.val + 256 * q.1.val = q.1.val * 256 + q.2.val
  omega

/-- **The exchange adds up to the whole product**: the four devices' partial products, summed by any of them, are the
    product of the whole arrays, and what a device makes of them is its columns of the layer's output. -/
theorem layer_cols (X : FVec Ideal Cert.ReferenceIdeal.S256x1024 .bf16) (W : FVec Ideal Cert.ReferenceIdeal.S1024x512 .bf16) (V : FVec Ideal Cert.ReferenceIdeal.S512x1024 .bf16)
    (p : Dev nD → FVec Ideal S256x512 .bf16)
    (hp : ∀ c, p c = inPart (Layout.block S256x256 Cert.ReferenceIdeal.S256x1024 1 4 c X) (Layout.block S256x512 Cert.ReferenceIdeal.S1024x512 0 4 c W)) (c : Dev nD) :
    outPart (hidden p c) (Layout.block S512x256 Cert.ReferenceIdeal.S512x1024 1 4 c V) = Layout.block S256x256 Cert.ReferenceIdeal.S256x1024 1 4 c (layer X W V) := by
  have hh (r : Fin 256) (k : Fin 512) : hidden p c (ix2 r k)
      = maximumf (truncf .bf16 (Host.dotGeneral Cert.ReferenceIdeal.dot_S256x1024_S1024x512_S256x512_1_0_0_1_n_n none X W) bitsLt_bf16_f32)
          (broadcastInDim S256x512 ![] Cert.ReferenceIdeal.Gen.bcast_S_S256x512 (constant Cert.ReferenceIdeal.S_ .bf16 0x0000#16)) (ix2 r k) := by
    have hs : ((p c (ix2 r k) + p (peer 0 c) (ix2 r k)) + (p (peer 1 c) (ix2 r k) + p (peer 2 c) (ix2 r k)) : EReal)
        = Host.dotGeneral (DotDims.plain 256 1024 512) none X W (ix2 r k) := by
      rw [sum_peers (fun d => p d (ix2 r k)) c, StackMember.dotGeneral_plain_apply, sum_blocks]
      refine Finset.sum_congr rfl fun d _ => ?_
      rw [hp d, inPart_apply]
      refine Finset.sum_congr rfl fun j _ => congrArg₂ (· * ·) (congrArg X ?_) (congrArg W ?_)
      · exact Shape.idx_ext₂ rfl rfl
      · exact Shape.idx_ext₂ rfl rfl
    exact congrArg₂ max hs rfl
  funext i
  obtain ⟨r, l, rfl⟩ : ∃ (r l : Fin 256), i = ix2 r l := ⟨i 0, i 1, eq_ix2 i⟩
  rw [outPart_apply, Layout.block_apply]
  refine Eq.trans ?_ (StackMember.dotGeneral_plain_apply (m := 256) (n := 1024) none _ V r (pos c l)).symm |>.trans (congrArg (layer X W V) (Shape.idx_ext₂ rfl rfl))
  refine Finset.sum_congr rfl fun k _ => congrArg₂ (· * ·) (hh r k) (congrArg V ?_)
  exact Shape.idx_ext₂ rfl rfl

/-- **The three layers**: where every device is handed its blocks of whole arrays, it computes its columns of the
    reference's result. -/
theorem result_cols (A : Dev nD → Args Ideal) (X : FVec Ideal Cert.ReferenceIdeal.S256x1024 .bf16) (W0 W1 W2 : FVec Ideal Cert.ReferenceIdeal.S1024x512 .bf16) (V0 V1 V2 : FVec Ideal Cert.ReferenceIdeal.S512x1024 .bf16)
    (hA : ∀ c, A c =
      { x := Layout.block S256x256 Cert.ReferenceIdeal.S256x1024 1 4 c X, win0 := Layout.block S256x512 Cert.ReferenceIdeal.S1024x512 0 4 c W0, wout0 := Layout.block S512x256 Cert.ReferenceIdeal.S512x1024 1 4 c V0,
        win1 := Layout.block S256x512 Cert.ReferenceIdeal.S1024x512 0 4 c W1, wout1 := Layout.block S512x256 Cert.ReferenceIdeal.S512x1024 1 4 c V1,
        win2 := Layout.block S256x512 Cert.ReferenceIdeal.S1024x512 0 4 c W2, wout2 := Layout.block S512x256 Cert.ReferenceIdeal.S512x1024 1 4 c V2 }) (c : Dev nD) :
    result A c = Layout.block S256x256 Cert.ReferenceIdeal.S256x1024 1 4 c (layer (layer (layer X W0 V0) W1 V1) W2 V2) := by
  have h0 (c : Dev nD) : part0 A c = inPart (Layout.block S256x256 Cert.ReferenceIdeal.S256x1024 1 4 c X) (Layout.block S256x512 Cert.ReferenceIdeal.S1024x512 0 4 c W0) := by
    rw [part0_eq, hA c]
  have h1 (c : Dev nD) : part1 A c = inPart (Layout.block S256x256 Cert.ReferenceIdeal.S256x1024 1 4 c (layer X W0 V0)) (Layout.block S256x512 Cert.ReferenceIdeal.S1024x512 0 4 c W1) := by
     rw [part1_eq, hA c]; exact congrArg (inPart · _) (layer_cols X W0 V0 _ h0 c)
  have h2 (c : Dev nD) : part2 A c
      = inPart (Layout.block S256x256 Cert.ReferenceIdeal.S256x1024 1 4 c (layer (layer X W0 V0) W1 V1)) (Layout.block S256x512 Cert.ReferenceIdeal.S1024x512 0 4 c W2) := by
     rw [part2_eq, hA c]; exact congrArg (inPart · _) (layer_cols _ W1 V1 _ h1 c)
  rw [result_eq, hA c]
  exact layer_cols _ W2 V2 _ h2 c

end Cert.MlpValue

end
-- ==== Proof.lean ====
/- The five claims: the kernel, its ideal program and the reference each end with arguments unchanged and counters at
   zero; the ideal program is the kernel over the extended reals; and there it computes the reference's function. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem
open Cert.MlpRun Cert.MlpValue

/-- The mesh's run, for any float values: it ends, each device's arguments are unchanged and every counter is at zero. -/
theorem run_frame {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ fun r =>
      (∀ c : Dev KernelIdeal.nD,
        r.2.mem ((c.tc : Thread KernelIdeal.nD KernelIdeal.τ).loc KernelIdeal.main_v1) = result (args m) c
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6))
      ∧ r.2.sem = fun _ => 0 :=
  (θ_run KernelIdeal.defs _ _).mono (fun _ h => ⟨fun c =>
    ⟨(h.1 c 7).trans (finalA_out m ρ c), (h.1 c 0).trans (finalA_in m ρ c 0 rfl), (h.1 c 1).trans (finalA_in m ρ c 1 rfl), (h.1 c 2).trans (finalA_in m ρ c 2 rfl),
      (h.1 c 3).trans (finalA_in m ρ c 3 rfl), (h.1 c 4).trans (finalA_in m ρ c 4 rfl), (h.1 c 5).trans (finalA_in m ρ c 5 rfl), (h.1 c 6).trans (finalA_in m ρ c 6 rfl)⟩, h.2⟩)
    (run_main m ρ)

/-- Of that run, what a frame says. -/
theorem run_quiet {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6))
      ∧ r.2.sem = fun _ => 0 :=
  (θ_run KernelIdeal.defs _ _).mono (fun _ h => ⟨fun c => (h.1 c).2, h.2⟩) (run_frame m ρ)

/-- The kernel's body and its ideal program's are the same text. -/
theorem body_same {F : FTy → Type} [FloatOps F] (a0 a1 a2 a3 a4 a5 a6 a7 a8 h0 h1 h2 h3 h4 h5 h6 h7 h8 s t) :
    Kernel.cc0_body (F := F) a0 h0 a1 h1 a2 h2 a3 h3 a4 h4 a5 h5 a6 h6 a7 h7 a8 h8 s t = KernelIdeal.cc0_body (F := F) a0 h0 a1 h1 a2 h2 a3 h3 a4 h4 a5 h5 a6 h6 a7 h7 a8 h8 s t := rfl

/-- So the two programs call the same bodies. -/
theorem defs₀_same {F : FTy → Type} [FloatOps F] : Kernel.defs₀ (F := F) = KernelIdeal.defs₀ (F := F) := by
  unfold Kernel.defs₀ KernelIdeal.defs₀
  refine congrArg Defs.onTc ?_
  funext l x
  match l, x with
  | ⟨0, _⟩, (t, s) => exact body_same _ _ _ _ _ _ _ _ _ _ _ _ _ _ _ _ _ _ _ _
  | ⟨_ + 1, h⟩, _ => exact absurd h (Nat.not_lt.2 (Nat.le_add_left _ _))

/-- And they have the same definitions. -/
theorem defs_same {F : FTy → Type} [FloatOps F] : Kernel.defs (F := F) = KernelIdeal.defs (F := F) :=
  congrArg (Pipeline.defs _) defs₀_same

/-- The kernel ends without fault on the mesh, its arguments unchanged and its counters at zero. -/
theorem frame_kernel : Cert.quiescent_Kernel := by
  intro m ρ _
  rw [defs_same]
  exact run_quiet (F := Bits) m ρ

/-- So does its ideal program. -/
theorem frame_ideal : Cert.quiescent_KernelIdeal := fun m ρ _ => run_quiet (F := Ideal) m ρ

/-- So does the reference, on its one device. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- Over the extended reals the mesh computes the reference's function: where each device is handed its blocks of the
    whole arrays, it ends with its columns of the reference's result. -/
theorem value : Cert.algebraic_KernelIdeal_ReferenceIdeal := by
  intro m ρ m' ρ' _ hm
  refine ⟨_, (θ_run Cert.KernelIdeal.defs _ _).mono (fun _ h c => ⟨?_, (h.1 c).2⟩) (run_frame (F := Ideal) m ρ),
    (θ_run Cert.ReferenceIdeal.defs _ _).mono (fun _ h => h 0) (Cert.ReferenceIdeal.Value.run m' ρ')⟩
  rw [(h.1 c).1]
  refine result_cols (args m) _ _ _ _ _ _ _ (fun c => ?_) c
  rw [args_eq, (hm c).1, (hm c).2.1, (hm c).2.2.1, (hm c).2.2.2.1, (hm c).2.2.2.2.1, (hm c).2.2.2.2.2.1, (hm c).2.2.2.2.2.2]

theorem claim : Cert.Claim :=
  ⟨Cert.Kernel.Gen.facts, Cert.KernelIdeal.Gen.facts, Cert.ReferenceIdeal.Gen.facts, frame_kernel, frame_ideal, frame_reference, trivial, value⟩

end Cert.Proof

end
